-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_nonneg [hPre_nonneg : Cert.Pre_nonneg.Facts] (m : (ℓ : Loc Cert.KernelIdeal.nD Cert.KernelIdeal.τ Cert.KernelIdeal.sig) → Buf (Elt Ideal) ℓ) : Prop :=
  ∀ c : Dev Cert.KernelIdeal.nD,
    (Cert.Pre_nonneg.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_nonneg [hPre_nonneg : Cert.Pre_nonneg.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_nonneg.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_nonneg [hKernelIdeal : Cert.KernelIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_nonneg m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_nonneg [hReferenceIdeal : Cert.ReferenceIdeal.Facts] [hPre_nonneg : Cert.Pre_nonneg.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_nonneg m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_nonneg [hKernelIdeal : Cert.KernelIdeal.Facts] [hReferenceIdeal : Cert.ReferenceIdeal.Facts] [hPre_nonneg : Cert.Pre_nonneg.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_nonneg m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v993) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_nonneg : Cert.Pre_nonneg.Facts),
    quiescent_Kernel (hKernel := hKernel)
    ∧ quiescent_KernelIdeal (hKernelIdeal := hKernelIdeal)
    ∧ quiescent_KernelIdeal_pre_nonneg (hKernelIdeal := hKernelIdeal) (hPre_nonneg := hPre_nonneg)
    ∧ quiescent_ReferenceIdeal (hReferenceIdeal := hReferenceIdeal)
    ∧ quiescent_ReferenceIdeal_pre_nonneg (hReferenceIdeal := hReferenceIdeal) (hPre_nonneg := hPre_nonneg)
    ∧ preserves_Kernel_KernelIdeal
    ∧ algebraic_KernelIdeal_ReferenceIdeal_pre_nonneg (hKernelIdeal := hKernelIdeal) (hReferenceIdeal := hReferenceIdeal) (hPre_nonneg := hPre_nonneg)
-- ==== Pre_nonneg.lean ====
abbrev S4x3x1024x1024 : Shape := ⟨4, ![4, 3, 1024, 1024]⟩
abbrev S4x72x256x256 : Shape := ⟨4, ![4, 72, 256, 256]⟩
abbrev S_ : Shape := ⟨0, ![]⟩

class Facts : Prop where
  bcast_S_S4x3x1024x1024 : S_.BroadcastsInDim S4x3x1024x1024 (![] : Fin 0 → Fin S4x3x1024x1024.rank)
  reducesTo_S4x3x1024x1024_S_d0_1_2_3 : S4x3x1024x1024.ReducesTo [0, 1, 2, 3] S_
  h_S_ : 0 < S_.numel

variable [Facts]

def fn {F : FTy → Type} [FloatOps F] (main_arg0 : FVec F S4x3x1024x1024 .f32) (main_arg1 : FVec F S4x72x256x256 .f32) : IVec S_ 1 :=
  let main_cst : FVec F S_ .f32 := constant S_ .f32 0x00000000#32
  let main_v0 : FVec F S4x3x1024x1024 .f32 := broadcastInDim S4x3x1024x1024 ![] bcast_S_S4x3x1024x1024 main_cst
  let main_v1 : IVec S4x3x1024x1024 1 := cmpf .oge main_arg0 main_v0
  let main_c : IVec S_ 1 := constantI S_ 1 1#1
  let main_v2 : IVec S_ 1 := (fun x v => Host.reduce IntOp.andi x v reducesTo_S4x3x1024x1024_S_d0_1_2_3 h_S_) main_v1 main_c
  main_v2
-- ==== Kernel.lean ====
abbrev S4x3x1024x1024 : Shape := ⟨4, ![4, 3, 1024, 1024]⟩
abbrev S4x72x256x256 : Shape := ⟨4, ![4, 72, 256, 256]⟩
abbrev S_ : Shape := ⟨0, ![]⟩
abbrev S1023 : Shape := ⟨1, ![1023]⟩
abbrev S1 : Shape := ⟨1, ![1]⟩
abbrev S1024 : Shape := ⟨1, ![1024]⟩
abbrev S256 : Shape := ⟨1, ![256]⟩
abbrev S1024x1 : Shape := ⟨2, ![1024, 1]⟩
abbrev S1x256 : Shape := ⟨2, ![1, 256]⟩
abbrev S1024x256 : Shape := ⟨2, ![1024, 256]⟩
abbrev S256x1024 : Shape := ⟨2, ![256, 1024]⟩
abbrev S256x256 : Shape := ⟨2, ![256, 256]⟩
abbrev S1x3x256x1024 : Shape := ⟨4, ![1, 3, 256, 1024]⟩
abbrev S1x72x256x256 : Shape := ⟨4, ![1, 72, 256, 256]⟩
abbrev S1x1x256x1024 : Shape := ⟨4, ![1, 1, 256, 1024]⟩
abbrev S1x1x256x256 : Shape := ⟨4, ![1, 1, 256, 256]⟩

abbrev nBuf : Space → Nat
  | .hbm => 110
  | .vmem => 9
  | .smem => 0
  | _ => 0

abbrev bufTy : (tb : Table) → Fin (tcTables nBuf tb) → BufTy
  | .hbm, ⟨0, _⟩ => ⟨S4x3x1024x1024, .f32⟩
  | .hbm, ⟨1, _⟩ => ⟨S4x72x256x256, .f32⟩
  | .hbm, ⟨2, _⟩ => ⟨S_, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S1023, .f32⟩
  | .hbm, ⟨10, _⟩ => ⟨S_, .f32⟩
  | .hbm, ⟨11, _⟩ => ⟨S1023, .f32⟩
  | .hbm, ⟨12, _⟩ => ⟨S1023, .f32⟩
  | .hbm, ⟨13, _⟩ => ⟨S1, .f32⟩
  | .hbm, ⟨14, _⟩ => ⟨S_, .f32⟩
  | .hbm, ⟨15, _⟩ => ⟨S1023, .f32⟩
  | .hbm, ⟨16, _⟩ => ⟨S1023, .f32⟩
  | .hbm, ⟨17, _⟩ => ⟨S1023, .f32⟩
  | .hbm, ⟨18, _⟩ => ⟨S1023, .f32⟩
  | .hbm, ⟨19, _⟩ => ⟨S1, .f32⟩
  | .hbm, ⟨20, _⟩ => ⟨S1023, .f32⟩
  | .hbm, ⟨21, _⟩ => ⟨S1023, .f32⟩
  | .hbm, ⟨22, _⟩ => ⟨S1023, .f32⟩
  | .hbm, ⟨23, _⟩ => ⟨S1, .f32⟩
  | .hbm, ⟨24, _⟩ => ⟨S1024, .f32⟩
  | .hbm, ⟨25, _⟩ => ⟨S_, .f32⟩
  | .hbm, ⟨26, _⟩ => ⟨S1024, .f32⟩
  | .hbm, ⟨27, _⟩ => ⟨S1024, .f32⟩
  | .hbm, ⟨28, _⟩ => ⟨S_, .f32⟩
  | .hbm, ⟨29, _⟩ => ⟨S1024, .f32⟩
  | .hbm, ⟨30, _⟩ => ⟨S1024, .f32⟩
  | .hbm, ⟨31, _⟩ => ⟨S_, .f32⟩
  | .hbm, ⟨32, _⟩ => ⟨S1024, .f32⟩
  | .hbm, ⟨33, _⟩ => ⟨S1024, .f32⟩
  | .hbm, ⟨34, _⟩ => ⟨S_, .f32⟩
  | .hbm, ⟨35, _⟩ => ⟨S_, .i32⟩
  | .hbm, ⟨36, _⟩ => ⟨S_, .f32⟩
  | .hbm, ⟨37, _⟩ => ⟨S1024, .f32⟩
  | .hbm, ⟨38, _⟩ => ⟨S1024, .f32⟩
  | .hbm, ⟨39, _⟩ => ⟨S_, .f32⟩
  | .hbm, ⟨40, _⟩ => ⟨S1024, .f32⟩
  | .hbm, ⟨41, _⟩ => ⟨S1024, .f32⟩
  | .hbm, ⟨42, _⟩ => ⟨S256, .f32⟩
  | .hbm, ⟨43, _⟩ => ⟨S1024x1, .f32⟩
  | .hbm, ⟨44, _⟩ => ⟨S1x256, .f32⟩
  | .hbm, ⟨45, _⟩ => ⟨S1024x256, .f32⟩
  | .hbm, ⟨46, _⟩ => ⟨S1024x256, .f32⟩
  | .hbm, ⟨47, _⟩ => ⟨S1024x256, .f32⟩
  | .hbm, ⟨48, _⟩ => ⟨S1024x256, .f32⟩
  | .hbm, ⟨49, _⟩ => ⟨S_, .f32⟩
  | .hbm, ⟨50, _⟩ => ⟨S1024x256, .f32⟩
  | .hbm, ⟨51, _⟩ => ⟨S1024x256, .f32⟩
  | .hbm, ⟨52, _⟩ => ⟨S_, .f32⟩
  | .hbm, ⟨53, _⟩ => ⟨S1024x256, .f32⟩
  | .hbm, ⟨54, _⟩ => ⟨S1024x256, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S1023, .f32⟩
  | .hbm, ⟨63, _⟩ => ⟨S_, .f32⟩
  | .hbm, ⟨64, _⟩ => ⟨S1023, .f32⟩
  | .hbm, ⟨65, _⟩ => ⟨S1023, .f32⟩
  | .hbm, ⟨66, _⟩ => ⟨S1, .f32⟩
  | .hbm, ⟨67, _⟩ => ⟨S_, .f32⟩
  | .hbm, ⟨68, _⟩ => ⟨S1023, .f32⟩
  | .hbm, ⟨69, _⟩ => ⟨S1023, .f32⟩
  | .hbm, ⟨70, _⟩ => ⟨S1023, .f32⟩
  | .hbm, ⟨71, _⟩ => ⟨S1023, .f32⟩
  | .hbm, ⟨72, _⟩ => ⟨S1, .f32⟩
  | .hbm, ⟨73, _⟩ => ⟨S1023, .f32⟩
  | .hbm, ⟨74, _⟩ => ⟨S1023, .f32⟩
  | .hbm, ⟨75, _⟩ => ⟨S1023, .f32⟩
  | .hbm, ⟨76, _⟩ => ⟨S1, .f32⟩
  | .hbm, ⟨77, _⟩ => ⟨S1024, .f32⟩
  | .hbm, ⟨78, _⟩ => ⟨S_, .f32⟩
  | .hbm, ⟨79, _⟩ => ⟨S1024, .f32⟩
  | .hbm, ⟨80, _⟩ => ⟨S1024, .f32⟩
  | .hbm, ⟨81, _⟩ => ⟨S_, .f32⟩
  | .hbm, ⟨82, _⟩ => ⟨S1024, .f32⟩
  | .hbm, ⟨83, _⟩ => ⟨S1024, .f32⟩
  | .hbm, ⟨84, _⟩ => ⟨S_, .f32⟩
  | .hbm, ⟨85, _⟩ => ⟨S1024, .f32⟩
  | .hbm, ⟨86, _⟩ => ⟨S1024, .f32⟩
  | .hbm, ⟨87, _⟩ => ⟨S_, .f32⟩
  | .hbm, ⟨88, _⟩ => ⟨S_, .i32⟩
  | .hbm, ⟨89, _⟩ => ⟨S_, .f32⟩
  | .hbm, ⟨90, _⟩ => ⟨S1024, .f32⟩
  | .hbm, ⟨91, _⟩ => ⟨S1024, .f32⟩
  | .hbm, ⟨92, _⟩ => ⟨S_, .f32⟩
  | .hbm, ⟨93, _⟩ => ⟨S1024, .f32⟩
  | .hbm, ⟨94, _⟩ => ⟨S1024, .f32⟩
  | .hbm, ⟨95, _⟩ => ⟨S256, .f32⟩
  | .hbm, ⟨96, _⟩ => ⟨S1024x1, .f32⟩
  | .hbm, ⟨97, _⟩ => ⟨S1x256, .f32⟩
  | .hbm, ⟨98, _⟩ => ⟨S1024x256, .f32⟩
  | .hbm, ⟨99, _⟩ => ⟨S1024x256, .f32⟩
  | .hbm, ⟨100, _⟩ => ⟨S1024x256, .f32⟩
  | .hbm, ⟨101, _⟩ => ⟨S1024x256, .f32⟩
  | .hbm, ⟨102, _⟩ => ⟨S_, .f32⟩
  | .hbm, ⟨103, _⟩ => ⟨S1024x256, .f32⟩
  | .hbm, ⟨104, _⟩ => ⟨S1024x256, .f32⟩
  | .hbm, ⟨105, _⟩ => ⟨S_, .f32⟩
  | .hbm, ⟨106, _⟩ => ⟨S1024x256, .f32⟩
  | .hbm, ⟨107, _⟩ => ⟨S1024x256, .f32⟩
  | .hbm, ⟨108, _⟩ => ⟨S256x1024, .f32⟩
  | .hbm, ⟨109, _⟩ => ⟨S4x3x1024x1024, .f32⟩
  | .local _ .vmem, ⟨0, _⟩ => ⟨S256x256, .f32⟩
  | .local _ .vmem, ⟨1, _⟩ => ⟨S256x256, .f32⟩
  | .local _ .vmem, ⟨2, _⟩ => ⟨S256x1024, .f32⟩
  | .local _ .vmem, ⟨3, _⟩ => ⟨S1x3x256x1024, .f32⟩
  | .local _ .vmem, ⟨4, _⟩ => ⟨S1x3x256x1024, .f32⟩
  | .local _ .vmem, ⟨5, _⟩ => ⟨S1x72x256x256, .f32⟩
  | .local _ .vmem, ⟨6, _⟩ => ⟨S1x72x256x256, .f32⟩
  | .local _ .vmem, ⟨7, _⟩ => ⟨S1x3x256x1024, .f32⟩
  | .local _ .vmem, ⟨8, _⟩ => ⟨S1x3x256x1024, .f32⟩
  | _, _ => ⟨S4x3x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_cst : Ref sig .tc := ⟨.hbm, 2, rfl⟩
abbrev main_call0_cst_0 : Ref sig .tc := ⟨.hbm, 3, rfl⟩
abbrev main_call0_call0_v0 : Ref sig .tc := ⟨.hbm, 4, rfl⟩
abbrev main_call0_call0_v1 : Ref sig .tc := ⟨.hbm, 5, rfl⟩
abbrev main_call0_call0_v2 : Ref sig .tc := ⟨.hbm, 6, rfl⟩
abbrev main_call0_call0_cst : Ref sig .tc := ⟨.hbm, 7, rfl⟩
abbrev main_call0_call0_v3 : Ref sig .tc := ⟨.hbm, 8, rfl⟩
abbrev main_call0_call0_v4 : Ref sig .tc := ⟨.hbm, 9, rfl⟩
abbrev main_call0_call0_cst_0 : Ref sig .tc := ⟨.hbm, 10, rfl⟩
abbrev main_call0_call0_v5 : Ref sig .tc := ⟨.hbm, 11, rfl⟩
abbrev main_call0_call0_v6 : Ref sig .tc := ⟨.hbm, 12, rfl⟩
abbrev main_call0_call0_v7 : Ref sig .tc := ⟨.hbm, 13, rfl⟩
abbrev main_call0_call0_cst_1 : Ref sig .tc := ⟨.hbm, 14, rfl⟩
abbrev main_call0_call0_v8 : Ref sig .tc := ⟨.hbm, 15, rfl⟩
abbrev main_call0_call0_v9 : Ref sig .tc := ⟨.hbm, 16, rfl⟩
abbrev main_call0_call0_v10 : Ref sig .tc := ⟨.hbm, 17, rfl⟩
abbrev main_call0_call0_v11 : Ref sig .tc := ⟨.hbm, 18, rfl⟩
abbrev main_call0_call0_v12 : Ref sig .tc := ⟨.hbm, 19, rfl⟩
abbrev main_call0_call0_v13 : Ref sig .tc := ⟨.hbm, 20, rfl⟩
abbrev main_call0_call0_v14 : Ref sig .tc := ⟨.hbm, 21, rfl⟩
abbrev main_call0_call0_v15 : Ref sig .tc := ⟨.hbm, 22, rfl⟩
abbrev main_call0_call0_v16 : Ref sig .tc := ⟨.hbm, 23, rfl⟩
abbrev main_call0_v0 : Ref sig .tc := ⟨.hbm, 24, rfl⟩
abbrev main_call0_cst_1 : Ref sig .tc := ⟨.hbm, 25, rfl⟩
abbrev main_call0_v1 : Ref sig .tc := ⟨.hbm, 26, rfl⟩
abbrev main_call0_v2 : Ref sig .tc := ⟨.hbm, 27, rfl⟩
abbrev main_call0_cst_2 : Ref sig .tc := ⟨.hbm, 28, rfl⟩
abbrev main_call0_v3 : Ref sig .tc := ⟨.hbm, 29, rfl⟩
abbrev main_call0_v4 : Ref sig .tc := ⟨.hbm, 30, rfl⟩
abbrev main_call0_cst_3 : Ref sig .tc := ⟨.hbm, 31, rfl⟩
abbrev main_call0_v5 : Ref sig .tc := ⟨.hbm, 32, rfl⟩
abbrev main_call0_v6 : Ref sig .tc := ⟨.hbm, 33, rfl⟩
abbrev main_call0_cst_4 : Ref sig .tc := ⟨.hbm, 34, rfl⟩
abbrev main_call0_c : Ref sig .tc := ⟨.hbm, 35, rfl⟩
abbrev main_call0_call1_v0 : Ref sig .tc := ⟨.hbm, 36, rfl⟩
abbrev main_call0_call1_v1 : Ref sig .tc := ⟨.hbm, 37, rfl⟩
abbrev main_call0_call1_v2 : Ref sig .tc := ⟨.hbm, 38, rfl⟩
abbrev main_call0_call1_v3 : Ref sig .tc := ⟨.hbm, 39, rfl⟩
abbrev main_call0_call1_v4 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_v12 : Ref sig .tc := ⟨.hbm, 46, rfl⟩
abbrev main_call0_v13 : Ref sig .tc := ⟨.hbm, 47, rfl⟩
abbrev main_call0_v14 : Ref sig .tc := ⟨.hbm, 48, rfl⟩
abbrev main_call0_cst_5 : Ref sig .tc := ⟨.hbm, 49, rfl⟩
abbrev main_call0_v15 : Ref sig .tc := ⟨.hbm, 50, rfl⟩
abbrev main_call0_v16 : Ref sig .tc := ⟨.hbm, 51, rfl⟩
abbrev main_call0_cst_6 : Ref sig .tc := ⟨.hbm, 52, rfl⟩
abbrev main_call0_v17 : Ref sig .tc := ⟨.hbm, 53, rfl⟩
abbrev main_call0_v18 : Ref sig .tc := ⟨.hbm, 54, rfl⟩
abbrev main_call0_cst_7 : Ref sig .tc := ⟨.hbm, 55, rfl⟩
abbrev main_call0_cst_8 : Ref sig .tc := ⟨.hbm, 56, rfl⟩
abbrev main_call0_call2_v0 : Ref sig .tc := ⟨.hbm, 57, rfl⟩
abbrev main_call0_call2_v1 : Ref sig .tc := ⟨.hbm, 58, rfl⟩
abbrev main_call0_call2_v2 : Ref sig .tc := ⟨.hbm, 59, rfl⟩
abbrev main_call0_call2_cst : Ref sig .tc := ⟨.hbm, 60, rfl⟩
abbrev main_call0_call2_v3 : Ref sig .tc := ⟨.hbm, 61, rfl⟩
abbrev main_call0_call2_v4 : Ref sig .tc := ⟨.hbm, 62, rfl⟩
abbrev main_call0_call2_cst_0 : Ref sig .tc := ⟨.hbm, 63, rfl⟩
abbrev main_call0_call2_v5 : Ref sig .tc := ⟨.hbm, 64, rfl⟩
abbrev main_call0_call2_v6 : Ref sig .tc := ⟨.hbm, 65, rfl⟩
abbrev main_call0_call2_v7 : Ref sig .tc := ⟨.hbm, 66, rfl⟩
abbrev main_call0_call2_cst_1 : Ref sig .tc := ⟨.hbm, 67, rfl⟩
abbrev main_call0_call2_v8 : Ref sig .tc := ⟨.hbm, 68, rfl⟩
abbrev main_call0_call2_v9 : Ref sig .tc := ⟨.hbm, 69, rfl⟩
abbrev main_call0_call2_v10 : Ref sig .tc := ⟨.hbm, 70, rfl⟩
abbrev main_call0_call2_v11 : Ref sig .tc := ⟨.hbm, 71, rfl⟩
abbrev main_call0_call2_v12 : Ref sig .tc := ⟨.hbm, 72, rfl⟩
abbrev main_call0_call2_v13 : Ref sig .tc := ⟨.hbm, 73, rfl⟩
abbrev main_call0_call2_v14 : Ref sig .tc := ⟨.hbm, 74, rfl⟩
abbrev main_call0_call2_v15 : Ref sig .tc := ⟨.hbm, 75, rfl⟩
abbrev main_call0_call2_v16 : Ref sig .tc := ⟨.hbm, 76, rfl⟩
abbrev main_call0_v19 : Ref sig .tc := ⟨.hbm, 77, rfl⟩
abbrev main_call0_cst_9 : Ref sig .tc := ⟨.hbm, 78, rfl⟩
abbrev main_call0_v20 : Ref sig .tc := ⟨.hbm, 79, rfl⟩
abbrev main_call0_v21 : Ref sig .tc := ⟨.hbm, 80, rfl⟩
abbrev main_call0_cst_10 : Ref sig .tc := ⟨.hbm, 81, rfl⟩
abbrev main_call0_v22 : Ref sig .tc := ⟨.hbm, 82, rfl⟩
abbrev main_call0_v23 : Ref sig .tc := ⟨.hbm, 83, rfl⟩
abbrev main_call0_cst_11 : Ref sig .tc := ⟨.hbm, 84, rfl⟩
abbrev main_call0_v24 : Ref sig .tc := ⟨.hbm, 85, rfl⟩
abbrev main_call0_v25 : Ref sig .tc := ⟨.hbm, 86, rfl⟩
abbrev main_call0_cst_12 : Ref sig .tc := ⟨.hbm, 87, rfl⟩
abbrev main_call0_c_13 : Ref sig .tc := ⟨.hbm, 88, rfl⟩
abbrev main_call0_call3_v0 : Ref sig .tc := ⟨.hbm, 89, rfl⟩
abbrev main_call0_call3_v1 : Ref sig .tc := ⟨.hbm, 90, rfl⟩
abbrev main_call0_call3_v2 : Ref sig .tc := ⟨.hbm, 91, rfl⟩
abbrev main_call0_call3_v3 : Ref sig .tc := ⟨.hbm, 92, rfl⟩
abbrev main_call0_call3_v4 : Ref sig .tc := ⟨.hbm, 93, rfl⟩
abbrev main_call0_v26 : Ref sig .tc := ⟨.hbm, 94, rfl⟩
abbrev main_call0_v27 : Ref sig .tc := ⟨.hbm, 95, rfl⟩
abbrev main_call0_v28 : Ref sig .tc := ⟨.hbm, 96, rfl⟩
abbrev main_call0_v29 : Ref sig .tc := ⟨.hbm, 97, rfl⟩
abbrev main_call0_v30 : Ref sig .tc := ⟨.hbm, 98, rfl⟩
abbrev main_call0_v31 : Ref sig .tc := ⟨.hbm, 99, rfl⟩
abbrev main_call0_v32 : Ref sig .tc := ⟨.hbm, 100, rfl⟩
abbrev main_call0_v33 : Ref sig .tc := ⟨.hbm, 101, rfl⟩
abbrev main_call0_cst_14 : Ref sig .tc := ⟨.hbm, 102, rfl⟩
abbrev main_call0_v34 : Ref sig .tc := ⟨.hbm, 103, rfl⟩
abbrev main_call0_v35 : Ref sig .tc := ⟨.hbm, 104, rfl⟩
abbrev main_call0_cst_15 : Ref sig .tc := ⟨.hbm, 105, rfl⟩
abbrev main_call0_v36 : Ref sig .tc := ⟨.hbm, 106, rfl⟩
abbrev main_call0_v37 : Ref sig .tc := ⟨.hbm, 107, rfl⟩
abbrev main_call0_v38 : Ref sig .tc := ⟨.hbm, 108, rfl⟩
abbrev main_v0 : Ref sig .tc := ⟨.hbm, 109, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

abbrev stage0_0 : Fin 2 → Memref sig .tc .vmem S256x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S256x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x3x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x72x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ReferenceIdeal.lean ====
abbrev S4x3x1024x1024 : Shape := ⟨4, ![4, 3, 1024, 1024]⟩
abbrev S4x72x256x256 : Shape := ⟨4, ![4, 72, 256, 256]⟩
abbrev S4x3x24x256x256 : Shape := ⟨5, ![4, 3, 24, 256, 256]⟩
abbrev S_ : Shape := ⟨0, ![]⟩
abbrev S1023 : Shape := ⟨1, ![1023]⟩
abbrev S1 : Shape := ⟨1, ![1]⟩
abbrev S1024 : Shape := ⟨1, ![1024]⟩
abbrev S1024x1 : Shape := ⟨2, ![1024, 1]⟩
abbrev S1x1024 : Shape := ⟨2, ![1, 1024]⟩
abbrev S4x1024x1024 : Shape := ⟨3, ![4, 1024, 1024]⟩
abbrev S4x1024x1024x3 : Shape := ⟨4, ![4, 1024, 1024, 3]⟩
abbrev S4x3x8x256x256 : Shape := ⟨5, ![4, 3, 8, 256, 256]⟩
abbrev S4x1x1024x1024 : Shape := ⟨4, ![4, 1, 1024, 1024]⟩
abbrev S4x8x256x256x3 : Shape := ⟨5, ![4, 8, 256, 256, 3]⟩
abbrev S4 : Shape := ⟨1, ![4]⟩
abbrev S4x1x1 : Shape := ⟨3, ![4, 1, 1]⟩
abbrev S4x1024x1024x1 : Shape := ⟨4, ![4, 1024, 1024, 1]⟩
abbrev S4x1024x1024x4 : Shape := ⟨4, ![4, 1024, 1024, 4]⟩

abbrev nBuf : Space → Nat
  | .hbm => 1365
  | .vmem => 0
  | .smem => 0
  | _ => 0

abbrev hbmTy0_0 (i : Nat) : BufTy := match i % 128 with
  | 0 => ⟨S4x3x1024x1024, .f32⟩
  | 1 => ⟨S4x72x256x256, .f32⟩
  | 2 => ⟨S4x3x24x256x256, .f32⟩
  | 3 => ⟨S_, .f32⟩
  | 4 => ⟨S_, .f32⟩
  | 5 => ⟨S_, .f32⟩
  | 6 => ⟨S_, .f32⟩
  | 7 => ⟨S_, .f32⟩
  | 8 => ⟨S_, .f32⟩
  | 9 => ⟨S_, .f32⟩
  | 10 => ⟨S1023, .f32⟩
  | 11 => ⟨S_, .f32⟩
  | 12 => ⟨S1023, .f32⟩
  | 13 => ⟨S1023, .f32⟩
  | 14 => ⟨S1, .f32⟩
  | 15 => ⟨S_, .f32⟩
  | 16 => ⟨S1023, .f32⟩
  | 17 => ⟨S1023, .f32⟩
  | 18 => ⟨S1023, .f32⟩
  | 19 => ⟨S1023, .f32⟩
  | 20 => ⟨S1, .f32⟩
  | 21 => ⟨S1023, .f32⟩
  | 22 => ⟨S1023, .f32⟩
  | 23 => ⟨S1023, .f32⟩
  | 24 => ⟨S1, .f32⟩
  | 25 => ⟨S1024, .f32⟩
  | 26 => ⟨S1024x1, .f32⟩
  | 27 => ⟨S_, .f32⟩
  | 28 => ⟨S_, .f32⟩
  | 29 => ⟨S_, .f32⟩
  | 30 => ⟨S_, .f32⟩
  | 31 => ⟨S_, .f32⟩
  | 32 => ⟨S_, .f32⟩
  | 33 => ⟨S_, .f32⟩
  | 34 => ⟨S1023, .f32⟩
  | 35 => ⟨S_, .f32⟩
  | 36 => ⟨S1023, .f32⟩
  | 37 => ⟨S1023, .f32⟩
  | 38 => ⟨S1, .f32⟩
  | 39 => ⟨S_, .f32⟩
  | 40 => ⟨S1023, .f32⟩
  | 41 => ⟨S1023, .f32⟩
  | 42 => ⟨S1023, .f32⟩
  | 43 => ⟨S1023, .f32⟩
  | 44 => ⟨S1, .f32⟩
  | 45 => ⟨S1023, .f32⟩
  | 46 => ⟨S1023, .f32⟩
  | 47 => ⟨S1023, .f32⟩
  | 48 => ⟨S1, .f32⟩
  | 49 => ⟨S1024, .f32⟩
  | 50 => ⟨S1x1024, .f32⟩
  | 51 => ⟨S4x1024x1024, .f32⟩
  | 52 => ⟨S4x1024x1024, .f32⟩
  | 53 => ⟨S_, .f32⟩
  | 54 => ⟨S4x1024x1024x3, .f32⟩
  | 55 => ⟨S4x3x8x256x256, .f32⟩
  | 56 => ⟨S4x1x1024x1024, .f32⟩
  | 57 => ⟨S4x1024x1024, .f32⟩
  | 58 => ⟨S_, .f32⟩
  | 59 => ⟨S4x1024x1024, .f32⟩
  | 60 => ⟨S4x1024x1024, .f32⟩
  | 61 => ⟨S_, .f32⟩
  | 62 => ⟨S4x1024x1024, .f32⟩
  | 63 => ⟨S4x1024x1024, .f32⟩
  | 64 => ⟨S_, .f32⟩
  | 65 => ⟨S4x1024x1024, .f32⟩
  | 66 => ⟨S4x1024x1024, .f32⟩
  | 67 => ⟨S_, .f32⟩
  | 68 => ⟨S_, .i32⟩
  | 69 => ⟨S_, .f32⟩
  | 70 => ⟨S4x1024x1024, .f32⟩
  | 71 => ⟨S4x1024x1024, .f32⟩
  | 72 => ⟨S_, .f32⟩
  | 73 => ⟨S4x1024x1024, .f32⟩
  | 74 => ⟨S4x1024x1024, .f32⟩
  | 75 => ⟨S_, .f32⟩
  | 76 => ⟨S4x1024x1024, .f32⟩
  | 77 => ⟨S4x1024x1024, .f32⟩
  | 78 => ⟨S_, .f32⟩
  | 79 => ⟨S4x1024x1024, .f32⟩
  | 80 => ⟨S4x1024x1024, .f32⟩
  | 81 => ⟨S_, .f32⟩
  | 82 => ⟨S4x1024x1024, .f32⟩
  | 83 => ⟨S4x1024x1024, .f32⟩
  | 84 => ⟨S_, .f32⟩
  | 85 => ⟨S_, .i32⟩
  | 86 => ⟨S_, .f32⟩
  | 87 => ⟨S4x1024x1024, .f32⟩
  | 88 => ⟨S4x1024x1024, .f32⟩
  | 89 => ⟨S_, .f32⟩
  | 90 => ⟨S4x1024x1024, .f32⟩
  | 91 => ⟨S4x1024x1024, .f32⟩
  | 92 => ⟨S_, .f32⟩
  | 93 => ⟨S4x1024x1024, .f32⟩
  | 94 => ⟨S4x1024x1024, .f32⟩
  | 95 => ⟨S_, .f32⟩
  | 96 => ⟨S4x1024x1024, .f32⟩
  | 97 => ⟨S4x1024x1024, .f32⟩
  | 98 => ⟨S_, .f32⟩
  | 99 => ⟨S4x1024x1024, .f32⟩
  | 100 => ⟨S4x1024x1024, .f32⟩
  | 101 => ⟨S_, .f32⟩
  | 102 => ⟨S_, .i32⟩
  | 103 => ⟨S_, .f32⟩
  | 104 => ⟨S4x1024x1024, .f32⟩
  | 105 => ⟨S4x1024x1024, .f32⟩
  | 106 => ⟨S_, .f32⟩
  | 107 => ⟨S4x1024x1024, .f32⟩
  | 108 => ⟨S4x1024x1024, .f32⟩
  | 109 => ⟨S4x1024x1024, .f32⟩
  | 110 => ⟨S4x1024x1024, .f32⟩
  | 111 => ⟨S4x1024x1024, .f32⟩
  | 112 => ⟨S4x1024x1024, .f32⟩
  | 113 => ⟨S4x1024x1024, .f32⟩
  | 114 => ⟨S4x1024x1024, .f32⟩
  | 115 => ⟨S4x1024x1024, .i32⟩
  | 116 => ⟨S_, .i32⟩
  | 117 => ⟨S4x1024x1024, .i32⟩
  | 118 => ⟨S4x1024x1024, .i32⟩
  | 119 => ⟨S_, .i32⟩
  | 120 => ⟨S4x1024x1024, .i32⟩
  | 121 => ⟨S4x1024x1024, .i32⟩
  | 122 => ⟨S4x1024x1024, .i32⟩
  | 123 => ⟨S_, .i32⟩
  | 124 => ⟨S4x1024x1024, .i32⟩
  | 125 => ⟨S4x1024x1024, .i32⟩
  | 126 => ⟨S_, .i32⟩
  | 127 => ⟨S4x1024x1024, .i32⟩
  | _ => ⟨S4x3x1024x1024, .f32⟩

abbrev hbmTy0_1 (i : Nat) : BufTy := match i % 128 with
  | 0 => ⟨S4x1024x1024, .i32⟩
  | 1 => ⟨S4x1024x1024, .i32⟩
  | 2 => ⟨S_, .i32⟩
  | 3 => ⟨S4x1024x1024, .i32⟩
  | 4 => ⟨S4x1024x1024, .i32⟩
  | 5 => ⟨S_, .i32⟩
  | 6 => ⟨S4x1024x1024, .i32⟩
  | 7 => ⟨S4x1024x1024, .i32⟩
  | 8 => ⟨S4x8x256x256x3, .f32⟩
  | 9 => ⟨S4, .i32⟩
  | 10 => ⟨S4x1x1, .i32⟩
  | 11 => ⟨S_, .f32⟩
  | 12 => ⟨S4x1024x1024x3, .f32⟩
  | 13 => ⟨S_, .f32⟩
  | 14 => ⟨S4x1024x1024, .f32⟩
  | 15 => ⟨S4x1024x1024, .f32⟩
  | 16 => ⟨S_, .f32⟩
  | 17 => ⟨S4x1024x1024, .f32⟩
  | 18 => ⟨S4x1024x1024, .f32⟩
  | 19 => ⟨S_, .f32⟩
  | 20 => ⟨S4x1024x1024, .f32⟩
  | 21 => ⟨S4x1024x1024, .f32⟩
  | 22 => ⟨S4x1024x1024, .f32⟩
  | 23 => ⟨S4x1024x1024, .f32⟩
  | 24 => ⟨S4x1024x1024x1, .f32⟩
  | 25 => ⟨S_, .i32⟩
  | 26 => ⟨S4x1x1, .i32⟩
  | 27 => ⟨S4x1x1, .i1⟩
  | 28 => ⟨S_, .i32⟩
  | 29 => ⟨S4x1x1, .i32⟩
  | 30 => ⟨S4x1x1, .i32⟩
  | 31 => ⟨S4x1x1, .i32⟩
  | 32 => ⟨S_, .i32⟩
  | 33 => ⟨S4x1024x1024, .i32⟩
  | 34 => ⟨S4x1024x1024, .i1⟩
  | 35 => ⟨S_, .i32⟩
  | 36 => ⟨S4x1024x1024, .i32⟩
  | 37 => ⟨S4x1024x1024, .i32⟩
  | 38 => ⟨S4x1024x1024, .i32⟩
  | 39 => ⟨S_, .i32⟩
  | 40 => ⟨S4x1024x1024, .i32⟩
  | 41 => ⟨S4x1024x1024, .i1⟩
  | 42 => ⟨S_, .i32⟩
  | 43 => ⟨S4x1024x1024, .i32⟩
  | 44 => ⟨S4x1024x1024, .i32⟩
  | 45 => ⟨S4x1024x1024, .i32⟩
  | 46 => ⟨S_, .i32⟩
  | 47 => ⟨S4x1024x1024, .i32⟩
  | 48 => ⟨S4x1024x1024, .i1⟩
  | 49 => ⟨S_, .i32⟩
  | 50 => ⟨S4x1024x1024, .i32⟩
  | 51 => ⟨S4x1024x1024, .i32⟩
  | 52 => ⟨S4x1024x1024, .i32⟩
  | 53 => ⟨S4x1024x1024, .i32⟩
  | 54 => ⟨S4x1024x1024x1, .i32⟩
  | 55 => ⟨S4x1024x1024x1, .i32⟩
  | 56 => ⟨S4x1024x1024x1, .i32⟩
  | 57 => ⟨S4x1024x1024x1, .i32⟩
  | 58 => ⟨S4x1024x1024x4, .i32⟩
  | 59 => ⟨S4x1024x1024x3, .f32⟩
  | 60 => ⟨S4x1024x1024x3, .f32⟩
  | 61 => ⟨S4x1024x1024x3, .f32⟩
  | 62 => ⟨S4x1024x1024x3, .f32⟩
  | 63 => ⟨S4x1024x1024, .f32⟩
  | 64 => ⟨S4x1024x1024, .f32⟩
  | 65 => ⟨S4x1024x1024x1, .f32⟩
  | 66 => ⟨S_, .i32⟩
  | 67 => ⟨S4x1x1, .i32⟩
  | 68 => ⟨S4x1x1, .i1⟩
  | 69 => ⟨S_, .i32⟩
  | 70 => ⟨S4x1x1, .i32⟩
  | 71 => ⟨S4x1x1, .i32⟩
  | 72 => ⟨S4x1x1, .i32⟩
  | 73 => ⟨S_, .i32⟩
  | 74 => ⟨S4x1024x1024, .i32⟩
  | 75 => ⟨S4x1024x1024, .i1⟩
  | 76 => ⟨S_, .i32⟩
  | 77 => ⟨S4x1024x1024, .i32⟩
  | 78 => ⟨S4x1024x1024, .i32⟩
  | 79 => ⟨S4x1024x1024, .i32⟩
  | 80 => ⟨S_, .i32⟩
  | 81 => ⟨S4x1024x1024, .i32⟩
  | 82 => ⟨S4x1024x1024, .i1⟩
  | 83 => ⟨S_, .i32⟩
  | 84 => ⟨S4x1024x1024, .i32⟩
  | 85 => ⟨S4x1024x1024, .i32⟩
  | 86 => ⟨S4x1024x1024, .i32⟩
  | 87 => ⟨S_, .i32⟩
  | 88 => ⟨S4x1024x1024, .i32⟩
  | 89 => ⟨S4x1024x1024, .i1⟩
  | 90 => ⟨S_, .i32⟩
  | 91 => ⟨S4x1024x1024, .i32⟩
  | 92 => ⟨S4x1024x1024, .i32⟩
  | 93 => ⟨S4x1024x1024, .i32⟩
  | 94 => ⟨S4x1024x1024, .i32⟩
  | 95 => ⟨S4x1024x1024x1, .i32⟩
  | 96 => ⟨S4x1024x1024x1, .i32⟩
  | 97 => ⟨S4x1024x1024x1, .i32⟩
  | 98 => ⟨S4x1024x1024x1, .i32⟩
  | 99 => ⟨S4x1024x1024x4, .i32⟩
  | 100 => ⟨S4x1024x1024x3, .f32⟩
  | 101 => ⟨S4x1024x1024x3, .f32⟩
  | 102 => ⟨S4x1024x1024x3, .f32⟩
  | 103 => ⟨S4x1024x1024x3, .f32⟩
  | 104 => ⟨S_, .f32⟩
  | 105 => ⟨S4x1024x1024, .f32⟩
  | 106 => ⟨S4x1024x1024, .f32⟩
  | 107 => ⟨S4x1024x1024, .f32⟩
  | 108 => ⟨S4x1024x1024, .f32⟩
  | 109 => ⟨S4x1024x1024x1, .f32⟩
  | 110 => ⟨S_, .i32⟩
  | 111 => ⟨S4x1x1, .i32⟩
  | 112 => ⟨S4x1x1, .i1⟩
  | 113 => ⟨S_, .i32⟩
  | 114 => ⟨S4x1x1, .i32⟩
  | 115 => ⟨S4x1x1, .i32⟩
  | 116 => ⟨S4x1x1, .i32⟩
  | 117 => ⟨S_, .i32⟩
  | 118 => ⟨S4x1024x1024, .i32⟩
  | 119 => ⟨S4x1024x1024, .i1⟩
  | 120 => ⟨S_, .i32⟩
  | 121 => ⟨S4x1024x1024, .i32⟩
  | 122 => ⟨S4x1024x1024, .i32⟩
  | 123 => ⟨S4x1024x1024, .i32⟩
  | 124 => ⟨S_, .i32⟩
  | 125 => ⟨S4x1024x1024, .i32⟩
  | 126 => ⟨S4x1024x1024, .i1⟩
  | 127 => ⟨S_, .i32⟩
  | _ => ⟨S4x3x1024x1024, .f32⟩

abbrev hbmTy0_2 (i : Nat) : BufTy := match i % 128 with
  | 0 => ⟨S4x1024x1024, .i32⟩
  | 1 => ⟨S4x1024x1024, .i32⟩
  | 2 => ⟨S4x1024x1024, .i32⟩
  | 3 => ⟨S_, .i32⟩
  | 4 => ⟨S4x1024x1024, .i32⟩
  | 5 => ⟨S4x1024x1024, .i1⟩
  | 6 => ⟨S_, .i32⟩
  | 7 => ⟨S4x1024x1024, .i32⟩
  | 8 => ⟨S4x1024x1024, .i32⟩
  | 9 => ⟨S4x1024x1024, .i32⟩
  | 10 => ⟨S4x1024x1024, .i32⟩
  | 11 => ⟨S4x1024x1024x1, .i32⟩
  | 12 => ⟨S4x1024x1024x1, .i32⟩
  | 13 => ⟨S4x1024x1024x1, .i32⟩
  | 14 => ⟨S4x1024x1024x1, .i32⟩
  | 15 => ⟨S4x1024x1024x4, .i32⟩
  | 16 => ⟨S4x1024x1024x3, .f32⟩
  | 17 => ⟨S4x1024x1024x3, .f32⟩
  | 18 => ⟨S4x1024x1024x3, .f32⟩
  | 19 => ⟨S4x1024x1024x3, .f32⟩
  | 20 => ⟨S4x1024x1024, .f32⟩
  | 21 => ⟨S4x1024x1024, .f32⟩
  | 22 => ⟨S4x1024x1024x1, .f32⟩
  | 23 => ⟨S_, .i32⟩
  | 24 => ⟨S4x1x1, .i32⟩
  | 25 => ⟨S4x1x1, .i1⟩
  | 26 => ⟨S_, .i32⟩
  | 27 => ⟨S4x1x1, .i32⟩
  | 28 => ⟨S4x1x1, .i32⟩
  | 29 => ⟨S4x1x1, .i32⟩
  | 30 => ⟨S_, .i32⟩
  | 31 => ⟨S4x1024x1024, .i32⟩
  | 32 => ⟨S4x1024x1024, .i1⟩
  | 33 => ⟨S_, .i32⟩
  | 34 => ⟨S4x1024x1024, .i32⟩
  | 35 => ⟨S4x1024x1024, .i32⟩
  | 36 => ⟨S4x1024x1024, .i32⟩
  | 37 => ⟨S_, .i32⟩
  | 38 => ⟨S4x1024x1024, .i32⟩
  | 39 => ⟨S4x1024x1024, .i1⟩
  | 40 => ⟨S_, .i32⟩
  | 41 => ⟨S4x1024x1024, .i32⟩
  | 42 => ⟨S4x1024x1024, .i32⟩
  | 43 => ⟨S4x1024x1024, .i32⟩
  | 44 => ⟨S_, .i32⟩
  | 45 => ⟨S4x1024x1024, .i32⟩
  | 46 => ⟨S4x1024x1024, .i1⟩
  | 47 => ⟨S_, .i32⟩
  | 48 => ⟨S4x1024x1024, .i32⟩
  | 49 => ⟨S4x1024x1024, .i32⟩
  | 50 => ⟨S4x1024x1024, .i32⟩
  | 51 => ⟨S4x1024x1024, .i32⟩
  | 52 => ⟨S4x1024x1024x1, .i32⟩
  | 53 => ⟨S4x1024x1024x1, .i32⟩
  | 54 => ⟨S4x1024x1024x1, .i32⟩
  | 55 => ⟨S4x1024x1024x1, .i32⟩
  | 56 => ⟨S4x1024x1024x4, .i32⟩
  | 57 => ⟨S4x1024x1024x3, .f32⟩
  | 58 => ⟨S4x1024x1024x3, .f32⟩
  | 59 => ⟨S4x1024x1024x3, .f32⟩
  | 60 => ⟨S4x1024x1024x3, .f32⟩
  | 61 => ⟨S_, .f32⟩
  | 62 => ⟨S4x1024x1024, .f32⟩
  | 63 => ⟨S4x1024x1024, .f32⟩
  | 64 => ⟨S_, .f32⟩
  | 65 => ⟨S4x1024x1024, .f32⟩
  | 66 => ⟨S4x1024x1024, .f32⟩
  | 67 => ⟨S4x1024x1024, .f32⟩
  | 68 => ⟨S4x1024x1024, .f32⟩
  | 69 => ⟨S4x1024x1024x1, .f32⟩
  | 70 => ⟨S_, .i32⟩
  | 71 => ⟨S4x1x1, .i32⟩
  | 72 => ⟨S4x1x1, .i1⟩
  | 73 => ⟨S_, .i32⟩
  | 74 => ⟨S4x1x1, .i32⟩
  | 75 => ⟨S4x1x1, .i32⟩
  | 76 => ⟨S4x1x1, .i32⟩
  | 77 => ⟨S_, .i32⟩
  | 78 => ⟨S4x1024x1024, .i32⟩
  | 79 => ⟨S4x1024x1024, .i1⟩
  | 80 => ⟨S_, .i32⟩
  | 81 => ⟨S4x1024x1024, .i32⟩
  | 82 => ⟨S4x1024x1024, .i32⟩
  | 83 => ⟨S4x1024x1024, .i32⟩
  | 84 => ⟨S_, .i32⟩
  | 85 => ⟨S4x1024x1024, .i32⟩
  | 86 => ⟨S4x1024x1024, .i1⟩
  | 87 => ⟨S_, .i32⟩
  | 88 => ⟨S4x1024x1024, .i32⟩
  | 89 => ⟨S4x1024x1024, .i32⟩
  | 90 => ⟨S4x1024x1024, .i32⟩
  | 91 => ⟨S_, .i32⟩
  | 92 => ⟨S4x1024x1024, .i32⟩
  | 93 => ⟨S4x1024x1024, .i1⟩
  | 94 => ⟨S_, .i32⟩
  | 95 => ⟨S4x1024x1024, .i32⟩
  | 96 => ⟨S4x1024x1024, .i32⟩
  | 97 => ⟨S4x1024x1024, .i32⟩
  | 98 => ⟨S4x1024x1024, .i32⟩
  | 99 => ⟨S4x1024x1024x1, .i32⟩
  | 100 => ⟨S4x1024x1024x1, .i32⟩
  | 101 => ⟨S4x1024x1024x1, .i32⟩
  | 102 => ⟨S4x1024x1024x1, .i32⟩
  | 103 => ⟨S4x1024x1024x4, .i32⟩
  | 104 => ⟨S4x1024x1024x3, .f32⟩
  | 105 => ⟨S4x1024x1024x3, .f32⟩
  | 106 => ⟨S4x1024x1024x3, .f32⟩
  | 107 => ⟨S4x1024x1024x3, .f32⟩
  | 108 => ⟨S4x1024x1024, .f32⟩
  | 109 => ⟨S4x1024x1024, .f32⟩
  | 110 => ⟨S4x1024x1024x1, .f32⟩
  | 111 => ⟨S_, .i32⟩
  | 112 => ⟨S4x1x1, .i32⟩
  | 113 => ⟨S4x1x1, .i1⟩
  | 114 => ⟨S_, .i32⟩
  | 115 => ⟨S4x1x1, .i32⟩
  | 116 => ⟨S4x1x1, .i32⟩
  | 117 => ⟨S4x1x1, .i32⟩
  | 118 => ⟨S_, .i32⟩
  | 119 => ⟨S4x1024x1024, .i32⟩
  | 120 => ⟨S4x1024x1024, .i1⟩
  | 121 => ⟨S_, .i32⟩
  | 122 => ⟨S4x1024x1024, .i32⟩
  | 123 => ⟨S4x1024x1024, .i32⟩
  | 124 => ⟨S4x1024x1024, .i32⟩
  | 125 => ⟨S_, .i32⟩
  | 126 => ⟨S4x1024x1024, .i32⟩
  | 127 => ⟨S4x1024x1024, .i1⟩
  | _ => ⟨S4x3x1024x1024, .f32⟩

abbrev hbmTy0_3 (i : Nat) : BufTy := match i % 128 with
  | 0 => ⟨S_, .i32⟩
  | 1 => ⟨S4x1024x1024, .i32⟩
  | 2 => ⟨S4x1024x1024, .i32⟩
  | 3 => ⟨S4x1024x1024, .i32⟩
  | 4 => ⟨S_, .i32⟩
  | 5 => ⟨S4x1024x1024, .i32⟩
  | 6 => ⟨S4x1024x1024, .i1⟩
  | 7 => ⟨S_, .i32⟩
  | 8 => ⟨S4x1024x1024, .i32⟩
  | 9 => ⟨S4x1024x1024, .i32⟩
  | 10 => ⟨S4x1024x1024, .i32⟩
  | 11 => ⟨S4x1024x1024, .i32⟩
  | 12 => ⟨S4x1024x1024x1, .i32⟩
  | 13 => ⟨S4x1024x1024x1, .i32⟩
  | 14 => ⟨S4x1024x1024x1, .i32⟩
  | 15 => ⟨S4x1024x1024x1, .i32⟩
  | 16 => ⟨S4x1024x1024x4, .i32⟩
  | 17 => ⟨S4x1024x1024x3, .f32⟩
  | 18 => ⟨S4x1024x1024x3, .f32⟩
  | 19 => ⟨S4x1024x1024x3, .f32⟩
  | 20 => ⟨S4x1024x1024x3, .f32⟩
  | 21 => ⟨S_, .f32⟩
  | 22 => ⟨S4x1024x1024, .f32⟩
  | 23 => ⟨S4x1024x1024, .f32⟩
  | 24 => ⟨S4x1024x1024, .f32⟩
  | 25 => ⟨S4x1024x1024, .f32⟩
  | 26 => ⟨S4x1024x1024x1, .f32⟩
  | 27 => ⟨S_, .i32⟩
  | 28 => ⟨S4x1x1, .i32⟩
  | 29 => ⟨S4x1x1, .i1⟩
  | 30 => ⟨S_, .i32⟩
  | 31 => ⟨S4x1x1, .i32⟩
  | 32 => ⟨S4x1x1, .i32⟩
  | 33 => ⟨S4x1x1, .i32⟩
  | 34 => ⟨S_, .i32⟩
  | 35 => ⟨S4x1024x1024, .i32⟩
  | 36 => ⟨S4x1024x1024, .i1⟩
  | 37 => ⟨S_, .i32⟩
  | 38 => ⟨S4x1024x1024, .i32⟩
  | 39 => ⟨S4x1024x1024, .i32⟩
  | 40 => ⟨S4x1024x1024, .i32⟩
  | 41 => ⟨S_, .i32⟩
  | 42 => ⟨S4x1024x1024, .i32⟩
  | 43 => ⟨S4x1024x1024, .i1⟩
  | 44 => ⟨S_, .i32⟩
  | 45 => ⟨S4x1024x1024, .i32⟩
  | 46 => ⟨S4x1024x1024, .i32⟩
  | 47 => ⟨S4x1024x1024, .i32⟩
  | 48 => ⟨S_, .i32⟩
  | 49 => ⟨S4x1024x1024, .i32⟩
  | 50 => ⟨S4x1024x1024, .i1⟩
  | 51 => ⟨S_, .i32⟩
  | 52 => ⟨S4x1024x1024, .i32⟩
  | 53 => ⟨S4x1024x1024, .i32⟩
  | 54 => ⟨S4x1024x1024, .i32⟩
  | 55 => ⟨S4x1024x1024, .i32⟩
  | 56 => ⟨S4x1024x1024x1, .i32⟩
  | 57 => ⟨S4x1024x1024x1, .i32⟩
  | 58 => ⟨S4x1024x1024x1, .i32⟩
  | 59 => ⟨S4x1024x1024x1, .i32⟩
  | 60 => ⟨S4x1024x1024x4, .i32⟩
  | 61 => ⟨S4x1024x1024x3, .f32⟩
  | 62 => ⟨S4x1024x1024x3, .f32⟩
  | 63 => ⟨S4x1024x1024x3, .f32⟩
  | 64 => ⟨S4x1024x1024x3, .f32⟩
  | 65 => ⟨S4x1024x1024, .f32⟩
  | 66 => ⟨S4x1024x1024, .f32⟩
  | 67 => ⟨S4x1024x1024x1, .f32⟩
  | 68 => ⟨S_, .i32⟩
  | 69 => ⟨S4x1x1, .i32⟩
  | 70 => ⟨S4x1x1, .i1⟩
  | 71 => ⟨S_, .i32⟩
  | 72 => ⟨S4x1x1, .i32⟩
  | 73 => ⟨S4x1x1, .i32⟩
  | 74 => ⟨S4x1x1, .i32⟩
  | 75 => ⟨S_, .i32⟩
  | 76 => ⟨S4x1024x1024, .i32⟩
  | 77 => ⟨S4x1024x1024, .i1⟩
  | 78 => ⟨S_, .i32⟩
  | 79 => ⟨S4x1024x1024, .i32⟩
  | 80 => ⟨S4x1024x1024, .i32⟩
  | 81 => ⟨S4x1024x1024, .i32⟩
  | 82 => ⟨S_, .i32⟩
  | 83 => ⟨S4x1024x1024, .i32⟩
  | 84 => ⟨S4x1024x1024, .i1⟩
  | 85 => ⟨S_, .i32⟩
  | 86 => ⟨S4x1024x1024, .i32⟩
  | 87 => ⟨S4x1024x1024, .i32⟩
  | 88 => ⟨S4x1024x1024, .i32⟩
  | 89 => ⟨S_, .i32⟩
  | 90 => ⟨S4x1024x1024, .i32⟩
  | 91 => ⟨S4x1024x1024, .i1⟩
  | 92 => ⟨S_, .i32⟩
  | 93 => ⟨S4x1024x1024, .i32⟩
  | 94 => ⟨S4x1024x1024, .i32⟩
  | 95 => ⟨S4x1024x1024, .i32⟩
  | 96 => ⟨S4x1024x1024, .i32⟩
  | 97 => ⟨S4x1024x1024x1, .i32⟩
  | 98 => ⟨S4x1024x1024x1, .i32⟩
  | 99 => ⟨S4x1024x1024x1, .i32⟩
  | 100 => ⟨S4x1024x1024x1, .i32⟩
  | 101 => ⟨S4x1024x1024x4, .i32⟩
  | 102 => ⟨S4x1024x1024x3, .f32⟩
  | 103 => ⟨S4x1024x1024x3, .f32⟩
  | 104 => ⟨S4x1024x1024x3, .f32⟩
  | 105 => ⟨S4x1024x1024x3, .f32⟩
  | 106 => ⟨S4x1024x1024x3, .f32⟩
  | 107 => ⟨S4x3x8x256x256, .f32⟩
  | 108 => ⟨S4x1x1024x1024, .f32⟩
  | 109 => ⟨S4x1024x1024, .f32⟩
  | 110 => ⟨S_, .f32⟩
  | 111 => ⟨S4x1024x1024, .f32⟩
  | 112 => ⟨S4x1024x1024, .f32⟩
  | 113 => ⟨S_, .f32⟩
  | 114 => ⟨S4x1024x1024, .f32⟩
  | 115 => ⟨S4x1024x1024, .f32⟩
  | 116 => ⟨S_, .f32⟩
  | 117 => ⟨S4x1024x1024, .f32⟩
  | 118 => ⟨S4x1024x1024, .f32⟩
  | 119 => ⟨S_, .f32⟩
  | 120 => ⟨S_, .i32⟩
  | 121 => ⟨S_, .f32⟩
  | 122 => ⟨S4x1024x1024, .f32⟩
  | 123 => ⟨S4x1024x1024, .f32⟩
  | 124 => ⟨S_, .f32⟩
  | 125 => ⟨S4x1024x1024, .f32⟩
  | 126 => ⟨S4x1024x1024, .f32⟩
  | 127 => ⟨S_, .f32⟩
  | _ => ⟨S4x3x1024x1024, .f32⟩

abbrev hbmTy0_4 (i : Nat) : BufTy := match i % 128 with
  | 0 => ⟨S4x1024x1024, .f32⟩
  | 1 => ⟨S4x1024x1024, .f32⟩
  | 2 => ⟨S_, .f32⟩
  | 3 => ⟨S4x1024x1024, .f32⟩
  | 4 => ⟨S4x1024x1024, .f32⟩
  | 5 => ⟨S_, .f32⟩
  | 6 => ⟨S4x1024x1024, .f32⟩
  | 7 => ⟨S4x1024x1024, .f32⟩
  | 8 => ⟨S_, .f32⟩
  | 9 => ⟨S_, .i32⟩
  | 10 => ⟨S_, .f32⟩
  | 11 => ⟨S4x1024x1024, .f32⟩
  | 12 => ⟨S4x1024x1024, .f32⟩
  | 13 => ⟨S_, .f32⟩
  | 14 => ⟨S4x1024x1024, .f32⟩
  | 15 => ⟨S4x1024x1024, .f32⟩
  | 16 => ⟨S_, .f32⟩
  | 17 => ⟨S4x1024x1024, .f32⟩
  | 18 => ⟨S4x1024x1024, .f32⟩
  | 19 => ⟨S_, .f32⟩
  | 20 => ⟨S4x1024x1024, .f32⟩
  | 21 => ⟨S4x1024x1024, .f32⟩
  | 22 => ⟨S_, .f32⟩
  | 23 => ⟨S4x1024x1024, .f32⟩
  | 24 => ⟨S4x1024x1024, .f32⟩
  | 25 => ⟨S_, .f32⟩
  | 26 => ⟨S_, .i32⟩
  | 27 => ⟨S_, .f32⟩
  | 28 => ⟨S4x1024x1024, .f32⟩
  | 29 => ⟨S4x1024x1024, .f32⟩
  | 30 => ⟨S_, .f32⟩
  | 31 => ⟨S4x1024x1024, .f32⟩
  | 32 => ⟨S4x1024x1024, .f32⟩
  | 33 => ⟨S4x1024x1024, .f32⟩
  | 34 => ⟨S4x1024x1024, .f32⟩
  | 35 => ⟨S4x1024x1024, .f32⟩
  | 36 => ⟨S4x1024x1024, .f32⟩
  | 37 => ⟨S4x1024x1024, .f32⟩
  | 38 => ⟨S4x1024x1024, .f32⟩
  | 39 => ⟨S4x1024x1024, .i32⟩
  | 40 => ⟨S_, .i32⟩
  | 41 => ⟨S4x1024x1024, .i32⟩
  | 42 => ⟨S4x1024x1024, .i32⟩
  | 43 => ⟨S_, .i32⟩
  | 44 => ⟨S4x1024x1024, .i32⟩
  | 45 => ⟨S4x1024x1024, .i32⟩
  | 46 => ⟨S4x1024x1024, .i32⟩
  | 47 => ⟨S_, .i32⟩
  | 48 => ⟨S4x1024x1024, .i32⟩
  | 49 => ⟨S4x1024x1024, .i32⟩
  | 50 => ⟨S_, .i32⟩
  | 51 => ⟨S4x1024x1024, .i32⟩
  | 52 => ⟨S4x1024x1024, .i32⟩
  | 53 => ⟨S4x1024x1024, .i32⟩
  | 54 => ⟨S_, .i32⟩
  | 55 => ⟨S4x1024x1024, .i32⟩
  | 56 => ⟨S4x1024x1024, .i32⟩
  | 57 => ⟨S_, .i32⟩
  | 58 => ⟨S4x1024x1024, .i32⟩
  | 59 => ⟨S4x1024x1024, .i32⟩
  | 60 => ⟨S4x8x256x256x3, .f32⟩
  | 61 => ⟨S4, .i32⟩
  | 62 => ⟨S4x1x1, .i32⟩
  | 63 => ⟨S_, .f32⟩
  | 64 => ⟨S4x1024x1024x3, .f32⟩
  | 65 => ⟨S_, .f32⟩
  | 66 => ⟨S4x1024x1024, .f32⟩
  | 67 => ⟨S4x1024x1024, .f32⟩
  | 68 => ⟨S_, .f32⟩
  | 69 => ⟨S4x1024x1024, .f32⟩
  | 70 => ⟨S4x1024x1024, .f32⟩
  | 71 => ⟨S_, .f32⟩
  | 72 => ⟨S4x1024x1024, .f32⟩
  | 73 => ⟨S4x1024x1024, .f32⟩
  | 74 => ⟨S4x1024x1024, .f32⟩
  | 75 => ⟨S4x1024x1024, .f32⟩
  | 76 => ⟨S4x1024x1024x1, .f32⟩
  | 77 => ⟨S_, .i32⟩
  | 78 => ⟨S4x1x1, .i32⟩
  | 79 => ⟨S4x1x1, .i1⟩
  | 80 => ⟨S_, .i32⟩
  | 81 => ⟨S4x1x1, .i32⟩
  | 82 => ⟨S4x1x1, .i32⟩
  | 83 => ⟨S4x1x1, .i32⟩
  | 84 => ⟨S_, .i32⟩
  | 85 => ⟨S4x1024x1024, .i32⟩
  | 86 => ⟨S4x1024x1024, .i1⟩
  | 87 => ⟨S_, .i32⟩
  | 88 => ⟨S4x1024x1024, .i32⟩
  | 89 => ⟨S4x1024x1024, .i32⟩
  | 90 => ⟨S4x1024x1024, .i32⟩
  | 91 => ⟨S_, .i32⟩
  | 92 => ⟨S4x1024x1024, .i32⟩
  | 93 => ⟨S4x1024x1024, .i1⟩
  | 94 => ⟨S_, .i32⟩
  | 95 => ⟨S4x1024x1024, .i32⟩
  | 96 => ⟨S4x1024x1024, .i32⟩
  | 97 => ⟨S4x1024x1024, .i32⟩
  | 98 => ⟨S_, .i32⟩
  | 99 => ⟨S4x1024x1024, .i32⟩
  | 100 => ⟨S4x1024x1024, .i1⟩
  | 101 => ⟨S_, .i32⟩
  | 102 => ⟨S4x1024x1024, .i32⟩
  | 103 => ⟨S4x1024x1024, .i32⟩
  | 104 => ⟨S4x1024x1024, .i32⟩
  | 105 => ⟨S4x1024x1024, .i32⟩
  | 106 => ⟨S4x1024x1024x1, .i32⟩
  | 107 => ⟨S4x1024x1024x1, .i32⟩
  | 108 => ⟨S4x1024x1024x1, .i32⟩
  | 109 => ⟨S4x1024x1024x1, .i32⟩
  | 110 => ⟨S4x1024x1024x4, .i32⟩
  | 111 => ⟨S4x1024x1024x3, .f32⟩
  | 112 => ⟨S4x1024x1024x3, .f32⟩
  | 113 => ⟨S4x1024x1024x3, .f32⟩
  | 114 => ⟨S4x1024x1024x3, .f32⟩
  | 115 => ⟨S4x1024x1024, .f32⟩
  | 116 => ⟨S4x1024x1024, .f32⟩
  | 117 => ⟨S4x1024x1024x1, .f32⟩
  | 118 => ⟨S_, .i32⟩
  | 119 => ⟨S4x1x1, .i32⟩
  | 120 => ⟨S4x1x1, .i1⟩
  | 121 => ⟨S_, .i32⟩
  | 122 => ⟨S4x1x1, .i32⟩
  | 123 => ⟨S4x1x1, .i32⟩
  | 124 => ⟨S4x1x1, .i32⟩
  | 125 => ⟨S_, .i32⟩
  | 126 => ⟨S4x1024x1024, .i32⟩
  | 127 => ⟨S4x1024x1024, .i1⟩
  | _ => ⟨S4x3x1024x1024, .f32⟩

abbrev hbmTy0_5 (i : Nat) : BufTy := match i % 128 with
  | 0 => ⟨S_, .i32⟩
  | 1 => ⟨S4x1024x1024, .i32⟩
  | 2 => ⟨S4x1024x1024, .i32⟩
  | 3 => ⟨S4x1024x1024, .i32⟩
  | 4 => ⟨S_, .i32⟩
  | 5 => ⟨S4x1024x1024, .i32⟩
  | 6 => ⟨S4x1024x1024, .i1⟩
  | 7 => ⟨S_, .i32⟩
  | 8 => ⟨S4x1024x1024, .i32⟩
  | 9 => ⟨S4x1024x1024, .i32⟩
  | 10 => ⟨S4x1024x1024, .i32⟩
  | 11 => ⟨S_, .i32⟩
  | 12 => ⟨S4x1024x1024, .i32⟩
  | 13 => ⟨S4x1024x1024, .i1⟩
  | 14 => ⟨S_, .i32⟩
  | 15 => ⟨S4x1024x1024, .i32⟩
  | 16 => ⟨S4x1024x1024, .i32⟩
  | 17 => ⟨S4x1024x1024, .i32⟩
  | 18 => ⟨S4x1024x1024, .i32⟩
  | 19 => ⟨S4x1024x1024x1, .i32⟩
  | 20 => ⟨S4x1024x1024x1, .i32⟩
  | 21 => ⟨S4x1024x1024x1, .i32⟩
  | 22 => ⟨S4x1024x1024x1, .i32⟩
  | 23 => ⟨S4x1024x1024x4, .i32⟩
  | 24 => ⟨S4x1024x1024x3, .f32⟩
  | 25 => ⟨S4x1024x1024x3, .f32⟩
  | 26 => ⟨S4x1024x1024x3, .f32⟩
  | 27 => ⟨S4x1024x1024x3, .f32⟩
  | 28 => ⟨S_, .f32⟩
  | 29 => ⟨S4x1024x1024, .f32⟩
  | 30 => ⟨S4x1024x1024, .f32⟩
  | 31 => ⟨S4x1024x1024, .f32⟩
  | 32 => ⟨S4x1024x1024, .f32⟩
  | 33 => ⟨S4x1024x1024x1, .f32⟩
  | 34 => ⟨S_, .i32⟩
  | 35 => ⟨S4x1x1, .i32⟩
  | 36 => ⟨S4x1x1, .i1⟩
  | 37 => ⟨S_, .i32⟩
  | 38 => ⟨S4x1x1, .i32⟩
  | 39 => ⟨S4x1x1, .i32⟩
  | 40 => ⟨S4x1x1, .i32⟩
  | 41 => ⟨S_, .i32⟩
  | 42 => ⟨S4x1024x1024, .i32⟩
  | 43 => ⟨S4x1024x1024, .i1⟩
  | 44 => ⟨S_, .i32⟩
  | 45 => ⟨S4x1024x1024, .i32⟩
  | 46 => ⟨S4x1024x1024, .i32⟩
  | 47 => ⟨S4x1024x1024, .i32⟩
  | 48 => ⟨S_, .i32⟩
  | 49 => ⟨S4x1024x1024, .i32⟩
  | 50 => ⟨S4x1024x1024, .i1⟩
  | 51 => ⟨S_, .i32⟩
  | 52 => ⟨S4x1024x1024, .i32⟩
  | 53 => ⟨S4x1024x1024, .i32⟩
  | 54 => ⟨S4x1024x1024, .i32⟩
  | 55 => ⟨S_, .i32⟩
  | 56 => ⟨S4x1024x1024, .i32⟩
  | 57 => ⟨S4x1024x1024, .i1⟩
  | 58 => ⟨S_, .i32⟩
  | 59 => ⟨S4x1024x1024, .i32⟩
  | 60 => ⟨S4x1024x1024, .i32⟩
  | 61 => ⟨S4x1024x1024, .i32⟩
  | 62 => ⟨S4x1024x1024, .i32⟩
  | 63 => ⟨S4x1024x1024x1, .i32⟩
  | 64 => ⟨S4x1024x1024x1, .i32⟩
  | 65 => ⟨S4x1024x1024x1, .i32⟩
  | 66 => ⟨S4x1024x1024x1, .i32⟩
  | 67 => ⟨S4x1024x1024x4, .i32⟩
  | 68 => ⟨S4x1024x1024x3, .f32⟩
  | 69 => ⟨S4x1024x1024x3, .f32⟩
  | 70 => ⟨S4x1024x1024x3, .f32⟩
  | 71 => ⟨S4x1024x1024x3, .f32⟩
  | 72 => ⟨S4x1024x1024, .f32⟩
  | 73 => ⟨S4x1024x1024, .f32⟩
  | 74 => ⟨S4x1024x1024x1, .f32⟩
  | 75 => ⟨S_, .i32⟩
  | 76 => ⟨S4x1x1, .i32⟩
  | 77 => ⟨S4x1x1, .i1⟩
  | 78 => ⟨S_, .i32⟩
  | 79 => ⟨S4x1x1, .i32⟩
  | 80 => ⟨S4x1x1, .i32⟩
  | 81 => ⟨S4x1x1, .i32⟩
  | 82 => ⟨S_, .i32⟩
  | 83 => ⟨S4x1024x1024, .i32⟩
  | 84 => ⟨S4x1024x1024, .i1⟩
  | 85 => ⟨S_, .i32⟩
  | 86 => ⟨S4x1024x1024, .i32⟩
  | 87 => ⟨S4x1024x1024, .i32⟩
  | 88 => ⟨S4x1024x1024, .i32⟩
  | 89 => ⟨S_, .i32⟩
  | 90 => ⟨S4x1024x1024, .i32⟩
  | 91 => ⟨S4x1024x1024, .i1⟩
  | 92 => ⟨S_, .i32⟩
  | 93 => ⟨S4x1024x1024, .i32⟩
  | 94 => ⟨S4x1024x1024, .i32⟩
  | 95 => ⟨S4x1024x1024, .i32⟩
  | 96 => ⟨S_, .i32⟩
  | 97 => ⟨S4x1024x1024, .i32⟩
  | 98 => ⟨S4x1024x1024, .i1⟩
  | 99 => ⟨S_, .i32⟩
  | 100 => ⟨S4x1024x1024, .i32⟩
  | 101 => ⟨S4x1024x1024, .i32⟩
  | 102 => ⟨S4x1024x1024, .i32⟩
  | 103 => ⟨S4x1024x1024, .i32⟩
  | 104 => ⟨S4x1024x1024x1, .i32⟩
  | 105 => ⟨S4x1024x1024x1, .i32⟩
  | 106 => ⟨S4x1024x1024x1, .i32⟩
  | 107 => ⟨S4x1024x1024x1, .i32⟩
  | 108 => ⟨S4x1024x1024x4, .i32⟩
  | 109 => ⟨S4x1024x1024x3, .f32⟩
  | 110 => ⟨S4x1024x1024x3, .f32⟩
  | 111 => ⟨S4x1024x1024x3, .f32⟩
  | 112 => ⟨S4x1024x1024x3, .f32⟩
  | 113 => ⟨S_, .f32⟩
  | 114 => ⟨S4x1024x1024, .f32⟩
  | 115 => ⟨S4x1024x1024, .f32⟩
  | 116 => ⟨S_, .f32⟩
  | 117 => ⟨S4x1024x1024, .f32⟩
  | 118 => ⟨S4x1024x1024, .f32⟩
  | 119 => ⟨S4x1024x1024, .f32⟩
  | 120 => ⟨S4x1024x1024, .f32⟩
  | 121 => ⟨S4x1024x1024x1, .f32⟩
  | 122 => ⟨S_, .i32⟩
  | 123 => ⟨S4x1x1, .i32⟩
  | 124 => ⟨S4x1x1, .i1⟩
  | 125 => ⟨S_, .i32⟩
  | 126 => ⟨S4x1x1, .i32⟩
  | 127 => ⟨S4x1x1, .i32⟩
  | _ => ⟨S4x3x1024x1024, .f32⟩

abbrev hbmTy0_6 (i : Nat) : BufTy := match i % 128 with
  | 0 => ⟨S4x1x1, .i32⟩
  | 1 => ⟨S_, .i32⟩
  | 2 => ⟨S4x1024x1024, .i32⟩
  | 3 => ⟨S4x1024x1024, .i1⟩
  | 4 => ⟨S_, .i32⟩
  | 5 => ⟨S4x1024x1024, .i32⟩
  | 6 => ⟨S4x1024x1024, .i32⟩
  | 7 => ⟨S4x1024x1024, .i32⟩
  | 8 => ⟨S_, .i32⟩
  | 9 => ⟨S4x1024x1024, .i32⟩
  | 10 => ⟨S4x1024x1024, .i1⟩
  | 11 => ⟨S_, .i32⟩
  | 12 => ⟨S4x1024x1024, .i32⟩
  | 13 => ⟨S4x1024x1024, .i32⟩
  | 14 => ⟨S4x1024x1024, .i32⟩
  | 15 => ⟨S_, .i32⟩
  | 16 => ⟨S4x1024x1024, .i32⟩
  | 17 => ⟨S4x1024x1024, .i1⟩
  | 18 => ⟨S_, .i32⟩
  | 19 => ⟨S4x1024x1024, .i32⟩
  | 20 => ⟨S4x1024x1024, .i32⟩
  | 21 => ⟨S4x1024x1024, .i32⟩
  | 22 => ⟨S4x1024x1024, .i32⟩
  | 23 => ⟨S4x1024x1024x1, .i32⟩
  | 24 => ⟨S4x1024x1024x1, .i32⟩
  | 25 => ⟨S4x1024x1024x1, .i32⟩
  | 26 => ⟨S4x1024x1024x1, .i32⟩
  | 27 => ⟨S4x1024x1024x4, .i32⟩
  | 28 => ⟨S4x1024x1024x3, .f32⟩
  | 29 => ⟨S4x1024x1024x3, .f32⟩
  | 30 => ⟨S4x1024x1024x3, .f32⟩
  | 31 => ⟨S4x1024x1024x3, .f32⟩
  | 32 => ⟨S4x1024x1024, .f32⟩
  | 33 => ⟨S4x1024x1024, .f32⟩
  | 34 => ⟨S4x1024x1024x1, .f32⟩
  | 35 => ⟨S_, .i32⟩
  | 36 => ⟨S4x1x1, .i32⟩
  | 37 => ⟨S4x1x1, .i1⟩
  | 38 => ⟨S_, .i32⟩
  | 39 => ⟨S4x1x1, .i32⟩
  | 40 => ⟨S4x1x1, .i32⟩
  | 41 => ⟨S4x1x1, .i32⟩
  | 42 => ⟨S_, .i32⟩
  | 43 => ⟨S4x1024x1024, .i32⟩
  | 44 => ⟨S4x1024x1024, .i1⟩
  | 45 => ⟨S_, .i32⟩
  | 46 => ⟨S4x1024x1024, .i32⟩
  | 47 => ⟨S4x1024x1024, .i32⟩
  | 48 => ⟨S4x1024x1024, .i32⟩
  | 49 => ⟨S_, .i32⟩
  | 50 => ⟨S4x1024x1024, .i32⟩
  | 51 => ⟨S4x1024x1024, .i1⟩
  | 52 => ⟨S_, .i32⟩
  | 53 => ⟨S4x1024x1024, .i32⟩
  | 54 => ⟨S4x1024x1024, .i32⟩
  | 55 => ⟨S4x1024x1024, .i32⟩
  | 56 => ⟨S_, .i32⟩
  | 57 => ⟨S4x1024x1024, .i32⟩
  | 58 => ⟨S4x1024x1024, .i1⟩
  | 59 => ⟨S_, .i32⟩
  | 60 => ⟨S4x1024x1024, .i32⟩
  | 61 => ⟨S4x1024x1024, .i32⟩
  | 62 => ⟨S4x1024x1024, .i32⟩
  | 63 => ⟨S4x1024x1024, .i32⟩
  | 64 => ⟨S4x1024x1024x1, .i32⟩
  | 65 => ⟨S4x1024x1024x1, .i32⟩
  | 66 => ⟨S4x1024x1024x1, .i32⟩
  | 67 => ⟨S4x1024x1024x1, .i32⟩
  | 68 => ⟨S4x1024x1024x4, .i32⟩
  | 69 => ⟨S4x1024x1024x3, .f32⟩
  | 70 => ⟨S4x1024x1024x3, .f32⟩
  | 71 => ⟨S4x1024x1024x3, .f32⟩
  | 72 => ⟨S4x1024x1024x3, .f32⟩
  | 73 => ⟨S_, .f32⟩
  | 74 => ⟨S4x1024x1024, .f32⟩
  | 75 => ⟨S4x1024x1024, .f32⟩
  | 76 => ⟨S4x1024x1024, .f32⟩
  | 77 => ⟨S4x1024x1024, .f32⟩
  | 78 => ⟨S4x1024x1024x1, .f32⟩
  | 79 => ⟨S_, .i32⟩
  | 80 => ⟨S4x1x1, .i32⟩
  | 81 => ⟨S4x1x1, .i1⟩
  | 82 => ⟨S_, .i32⟩
  | 83 => ⟨S4x1x1, .i32⟩
  | 84 => ⟨S4x1x1, .i32⟩
  | 85 => ⟨S4x1x1, .i32⟩
  | 86 => ⟨S_, .i32⟩
  | 87 => ⟨S4x1024x1024, .i32⟩
  | 88 => ⟨S4x1024x1024, .i1⟩
  | 89 => ⟨S_, .i32⟩
  | 90 => ⟨S4x1024x1024, .i32⟩
  | 91 => ⟨S4x1024x1024, .i32⟩
  | 92 => ⟨S4x1024x1024, .i32⟩
  | 93 => ⟨S_, .i32⟩
  | 94 => ⟨S4x1024x1024, .i32⟩
  | 95 => ⟨S4x1024x1024, .i1⟩
  | 96 => ⟨S_, .i32⟩
  | 97 => ⟨S4x1024x1024, .i32⟩
  | 98 => ⟨S4x1024x1024, .i32⟩
  | 99 => ⟨S4x1024x1024, .i32⟩
  | 100 => ⟨S_, .i32⟩
  | 101 => ⟨S4x1024x1024, .i32⟩
  | 102 => ⟨S4x1024x1024, .i1⟩
  | 103 => ⟨S_, .i32⟩
  | 104 => ⟨S4x1024x1024, .i32⟩
  | 105 => ⟨S4x1024x1024, .i32⟩
  | 106 => ⟨S4x1024x1024, .i32⟩
  | 107 => ⟨S4x1024x1024, .i32⟩
  | 108 => ⟨S4x1024x1024x1, .i32⟩
  | 109 => ⟨S4x1024x1024x1, .i32⟩
  | 110 => ⟨S4x1024x1024x1, .i32⟩
  | 111 => ⟨S4x1024x1024x1, .i32⟩
  | 112 => ⟨S4x1024x1024x4, .i32⟩
  | 113 => ⟨S4x1024x1024x3, .f32⟩
  | 114 => ⟨S4x1024x1024x3, .f32⟩
  | 115 => ⟨S4x1024x1024x3, .f32⟩
  | 116 => ⟨S4x1024x1024x3, .f32⟩
  | 117 => ⟨S4x1024x1024, .f32⟩
  | 118 => ⟨S4x1024x1024, .f32⟩
  | 119 => ⟨S4x1024x1024x1, .f32⟩
  | 120 => ⟨S_, .i32⟩
  | 121 => ⟨S4x1x1, .i32⟩
  | 122 => ⟨S4x1x1, .i1⟩
  | 123 => ⟨S_, .i32⟩
  | 124 => ⟨S4x1x1, .i32⟩
  | 125 => ⟨S4x1x1, .i32⟩
  | 126 => ⟨S4x1x1, .i32⟩
  | 127 => ⟨S_, .i32⟩
  | _ => ⟨S4x3x1024x1024, .f32⟩

abbrev hbmTy0_7 (i : Nat) : BufTy := match i % 128 with
  | 0 => ⟨S4x1024x1024, .i32⟩
  | 1 => ⟨S4x1024x1024, .i1⟩
  | 2 => ⟨S_, .i32⟩
  | 3 => ⟨S4x1024x1024, .i32⟩
  | 4 => ⟨S4x1024x1024, .i32⟩
  | 5 => ⟨S4x1024x1024, .i32⟩
  | 6 => ⟨S_, .i32⟩
  | 7 => ⟨S4x1024x1024, .i32⟩
  | 8 => ⟨S4x1024x1024, .i1⟩
  | 9 => ⟨S_, .i32⟩
  | 10 => ⟨S4x1024x1024, .i32⟩
  | 11 => ⟨S4x1024x1024, .i32⟩
  | 12 => ⟨S4x1024x1024, .i32⟩
  | 13 => ⟨S_, .i32⟩
  | 14 => ⟨S4x1024x1024, .i32⟩
  | 15 => ⟨S4x1024x1024, .i1⟩
  | 16 => ⟨S_, .i32⟩
  | 17 => ⟨S4x1024x1024, .i32⟩
  | 18 => ⟨S4x1024x1024, .i32⟩
  | 19 => ⟨S4x1024x1024, .i32⟩
  | 20 => ⟨S4x1024x1024, .i32⟩
  | 21 => ⟨S4x1024x1024x1, .i32⟩
  | 22 => ⟨S4x1024x1024x1, .i32⟩
  | 23 => ⟨S4x1024x1024x1, .i32⟩
  | 24 => ⟨S4x1024x1024x1, .i32⟩
  | 25 => ⟨S4x1024x1024x4, .i32⟩
  | 26 => ⟨S4x1024x1024x3, .f32⟩
  | 27 => ⟨S4x1024x1024x3, .f32⟩
  | 28 => ⟨S4x1024x1024x3, .f32⟩
  | 29 => ⟨S4x1024x1024x3, .f32⟩
  | 30 => ⟨S4x1024x1024x3, .f32⟩
  | 31 => ⟨S4x3x8x256x256, .f32⟩
  | 32 => ⟨S4x1x1024x1024, .f32⟩
  | 33 => ⟨S4x1024x1024, .f32⟩
  | 34 => ⟨S_, .f32⟩
  | 35 => ⟨S4x1024x1024, .f32⟩
  | 36 => ⟨S4x1024x1024, .f32⟩
  | 37 => ⟨S_, .f32⟩
  | 38 => ⟨S4x1024x1024, .f32⟩
  | 39 => ⟨S4x1024x1024, .f32⟩
  | 40 => ⟨S_, .f32⟩
  | 41 => ⟨S4x1024x1024, .f32⟩
  | 42 => ⟨S4x1024x1024, .f32⟩
  | 43 => ⟨S_, .f32⟩
  | 44 => ⟨S_, .i32⟩
  | 45 => ⟨S_, .f32⟩
  | 46 => ⟨S4x1024x1024, .f32⟩
  | 47 => ⟨S4x1024x1024, .f32⟩
  | 48 => ⟨S_, .f32⟩
  | 49 => ⟨S4x1024x1024, .f32⟩
  | 50 => ⟨S4x1024x1024, .f32⟩
  | 51 => ⟨S_, .f32⟩
  | 52 => ⟨S4x1024x1024, .f32⟩
  | 53 => ⟨S4x1024x1024, .f32⟩
  | 54 => ⟨S_, .f32⟩
  | 55 => ⟨S4x1024x1024, .f32⟩
  | 56 => ⟨S4x1024x1024, .f32⟩
  | 57 => ⟨S_, .f32⟩
  | 58 => ⟨S4x1024x1024, .f32⟩
  | 59 => ⟨S4x1024x1024, .f32⟩
  | 60 => ⟨S_, .f32⟩
  | 61 => ⟨S_, .i32⟩
  | 62 => ⟨S_, .f32⟩
  | 63 => ⟨S4x1024x1024, .f32⟩
  | 64 => ⟨S4x1024x1024, .f32⟩
  | 65 => ⟨S_, .f32⟩
  | 66 => ⟨S4x1024x1024, .f32⟩
  | 67 => ⟨S4x1024x1024, .f32⟩
  | 68 => ⟨S_, .f32⟩
  | 69 => ⟨S4x1024x1024, .f32⟩
  | 70 => ⟨S4x1024x1024, .f32⟩
  | 71 => ⟨S_, .f32⟩
  | 72 => ⟨S4x1024x1024, .f32⟩
  | 73 => ⟨S4x1024x1024, .f32⟩
  | 74 => ⟨S_, .f32⟩
  | 75 => ⟨S4x1024x1024, .f32⟩
  | 76 => ⟨S4x1024x1024, .f32⟩
  | 77 => ⟨S_, .f32⟩
  | 78 => ⟨S_, .i32⟩
  | 79 => ⟨S_, .f32⟩
  | 80 => ⟨S4x1024x1024, .f32⟩
  | 81 => ⟨S4x1024x1024, .f32⟩
  | 82 => ⟨S_, .f32⟩
  | 83 => ⟨S4x1024x1024, .f32⟩
  | 84 => ⟨S4x1024x1024, .f32⟩
  | 85 => ⟨S4x1024x1024, .f32⟩
  | 86 => ⟨S4x1024x1024, .f32⟩
  | 87 => ⟨S4x1024x1024, .f32⟩
  | 88 => ⟨S4x1024x1024, .f32⟩
  | 89 => ⟨S4x1024x1024, .f32⟩
  | 90 => ⟨S4x1024x1024, .f32⟩
  | 91 => ⟨S4x1024x1024, .i32⟩
  | 92 => ⟨S_, .i32⟩
  | 93 => ⟨S4x1024x1024, .i32⟩
  | 94 => ⟨S4x1024x1024, .i32⟩
  | 95 => ⟨S_, .i32⟩
  | 96 => ⟨S4x1024x1024, .i32⟩
  | 97 => ⟨S4x1024x1024, .i32⟩
  | 98 => ⟨S4x1024x1024, .i32⟩
  | 99 => ⟨S_, .i32⟩
  | 100 => ⟨S4x1024x1024, .i32⟩
  | 101 => ⟨S4x1024x1024, .i32⟩
  | 102 => ⟨S_, .i32⟩
  | 103 => ⟨S4x1024x1024, .i32⟩
  | 104 => ⟨S4x1024x1024, .i32⟩
  | 105 => ⟨S4x1024x1024, .i32⟩
  | 106 => ⟨S_, .i32⟩
  | 107 => ⟨S4x1024x1024, .i32⟩
  | 108 => ⟨S4x1024x1024, .i32⟩
  | 109 => ⟨S_, .i32⟩
  | 110 => ⟨S4x1024x1024, .i32⟩
  | 111 => ⟨S4x1024x1024, .i32⟩
  | 112 => ⟨S4x8x256x256x3, .f32⟩
  | 113 => ⟨S4, .i32⟩
  | 114 => ⟨S4x1x1, .i32⟩
  | 115 => ⟨S_, .f32⟩
  | 116 => ⟨S4x1024x1024x3, .f32⟩
  | 117 => ⟨S_, .f32⟩
  | 118 => ⟨S4x1024x1024, .f32⟩
  | 119 => ⟨S4x1024x1024, .f32⟩
  | 120 => ⟨S_, .f32⟩
  | 121 => ⟨S4x1024x1024, .f32⟩
  | 122 => ⟨S4x1024x1024, .f32⟩
  | 123 => ⟨S_, .f32⟩
  | 124 => ⟨S4x1024x1024, .f32⟩
  | 125 => ⟨S4x1024x1024, .f32⟩
  | 126 => ⟨S4x1024x1024, .f32⟩
  | 127 => ⟨S4x1024x1024, .f32⟩
  | _ => ⟨S4x3x1024x1024, .f32⟩

abbrev hbmTy0_8 (i : Nat) : BufTy := match i % 128 with
  | 0 => ⟨S4x1024x1024x1, .f32⟩
  | 1 => ⟨S_, .i32⟩
  | 2 => ⟨S4x1x1, .i32⟩
  | 3 => ⟨S4x1x1, .i1⟩
  | 4 => ⟨S_, .i32⟩
  | 5 => ⟨S4x1x1, .i32⟩
  | 6 => ⟨S4x1x1, .i32⟩
  | 7 => ⟨S4x1x1, .i32⟩
  | 8 => ⟨S_, .i32⟩
  | 9 => ⟨S4x1024x1024, .i32⟩
  | 10 => ⟨S4x1024x1024, .i1⟩
  | 11 => ⟨S_, .i32⟩
  | 12 => ⟨S4x1024x1024, .i32⟩
  | 13 => ⟨S4x1024x1024, .i32⟩
  | 14 => ⟨S4x1024x1024, .i32⟩
  | 15 => ⟨S_, .i32⟩
  | 16 => ⟨S4x1024x1024, .i32⟩
  | 17 => ⟨S4x1024x1024, .i1⟩
  | 18 => ⟨S_, .i32⟩
  | 19 => ⟨S4x1024x1024, .i32⟩
  | 20 => ⟨S4x1024x1024, .i32⟩
  | 21 => ⟨S4x1024x1024, .i32⟩
  | 22 => ⟨S_, .i32⟩
  | 23 => ⟨S4x1024x1024, .i32⟩
  | 24 => ⟨S4x1024x1024, .i1⟩
  | 25 => ⟨S_, .i32⟩
  | 26 => ⟨S4x1024x1024, .i32⟩
  | 27 => ⟨S4x1024x1024, .i32⟩
  | 28 => ⟨S4x1024x1024, .i32⟩
  | 29 => ⟨S4x1024x1024, .i32⟩
  | 30 => ⟨S4x1024x1024x1, .i32⟩
  | 31 => ⟨S4x1024x1024x1, .i32⟩
  | 32 => ⟨S4x1024x1024x1, .i32⟩
  | 33 => ⟨S4x1024x1024x1, .i32⟩
  | 34 => ⟨S4x1024x1024x4, .i32⟩
  | 35 => ⟨S4x1024x1024x3, .f32⟩
  | 36 => ⟨S4x1024x1024x3, .f32⟩
  | 37 => ⟨S4x1024x1024x3, .f32⟩
  | 38 => ⟨S4x1024x1024x3, .f32⟩
  | 39 => ⟨S4x1024x1024, .f32⟩
  | 40 => ⟨S4x1024x1024, .f32⟩
  | 41 => ⟨S4x1024x1024x1, .f32⟩
  | 42 => ⟨S_, .i32⟩
  | 43 => ⟨S4x1x1, .i32⟩
  | 44 => ⟨S4x1x1, .i1⟩
  | 45 => ⟨S_, .i32⟩
  | 46 => ⟨S4x1x1, .i32⟩
  | 47 => ⟨S4x1x1, .i32⟩
  | 48 => ⟨S4x1x1, .i32⟩
  | 49 => ⟨S_, .i32⟩
  | 50 => ⟨S4x1024x1024, .i32⟩
  | 51 => ⟨S4x1024x1024, .i1⟩
  | 52 => ⟨S_, .i32⟩
  | 53 => ⟨S4x1024x1024, .i32⟩
  | 54 => ⟨S4x1024x1024, .i32⟩
  | 55 => ⟨S4x1024x1024, .i32⟩
  | 56 => ⟨S_, .i32⟩
  | 57 => ⟨S4x1024x1024, .i32⟩
  | 58 => ⟨S4x1024x1024, .i1⟩
  | 59 => ⟨S_, .i32⟩
  | 60 => ⟨S4x1024x1024, .i32⟩
  | 61 => ⟨S4x1024x1024, .i32⟩
  | 62 => ⟨S4x1024x1024, .i32⟩
  | 63 => ⟨S_, .i32⟩
  | 64 => ⟨S4x1024x1024, .i32⟩
  | 65 => ⟨S4x1024x1024, .i1⟩
  | 66 => ⟨S_, .i32⟩
  | 67 => ⟨S4x1024x1024, .i32⟩
  | 68 => ⟨S4x1024x1024, .i32⟩
  | 69 => ⟨S4x1024x1024, .i32⟩
  | 70 => ⟨S4x1024x1024, .i32⟩
  | 71 => ⟨S4x1024x1024x1, .i32⟩
  | 72 => ⟨S4x1024x1024x1, .i32⟩
  | 73 => ⟨S4x1024x1024x1, .i32⟩
  | 74 => ⟨S4x1024x1024x1, .i32⟩
  | 75 => ⟨S4x1024x1024x4, .i32⟩
  | 76 => ⟨S4x1024x1024x3, .f32⟩
  | 77 => ⟨S4x1024x1024x3, .f32⟩
  | 78 => ⟨S4x1024x1024x3, .f32⟩
  | 79 => ⟨S4x1024x1024x3, .f32⟩
  | 80 => ⟨S_, .f32⟩
  | 81 => ⟨S4x1024x1024, .f32⟩
  | 82 => ⟨S4x1024x1024, .f32⟩
  | 83 => ⟨S4x1024x1024, .f32⟩
  | 84 => ⟨S4x1024x1024, .f32⟩
  | 85 => ⟨S4x1024x1024x1, .f32⟩
  | 86 => ⟨S_, .i32⟩
  | 87 => ⟨S4x1x1, .i32⟩
  | 88 => ⟨S4x1x1, .i1⟩
  | 89 => ⟨S_, .i32⟩
  | 90 => ⟨S4x1x1, .i32⟩
  | 91 => ⟨S4x1x1, .i32⟩
  | 92 => ⟨S4x1x1, .i32⟩
  | 93 => ⟨S_, .i32⟩
  | 94 => ⟨S4x1024x1024, .i32⟩
  | 95 => ⟨S4x1024x1024, .i1⟩
  | 96 => ⟨S_, .i32⟩
  | 97 => ⟨S4x1024x1024, .i32⟩
  | 98 => ⟨S4x1024x1024, .i32⟩
  | 99 => ⟨S4x1024x1024, .i32⟩
  | 100 => ⟨S_, .i32⟩
  | 101 => ⟨S4x1024x1024, .i32⟩
  | 102 => ⟨S4x1024x1024, .i1⟩
  | 103 => ⟨S_, .i32⟩
  | 104 => ⟨S4x1024x1024, .i32⟩
  | 105 => ⟨S4x1024x1024, .i32⟩
  | 106 => ⟨S4x1024x1024, .i32⟩
  | 107 => ⟨S_, .i32⟩
  | 108 => ⟨S4x1024x1024, .i32⟩
  | 109 => ⟨S4x1024x1024, .i1⟩
  | 110 => ⟨S_, .i32⟩
  | 111 => ⟨S4x1024x1024, .i32⟩
  | 112 => ⟨S4x1024x1024, .i32⟩
  | 113 => ⟨S4x1024x1024, .i32⟩
  | 114 => ⟨S4x1024x1024, .i32⟩
  | 115 => ⟨S4x1024x1024x1, .i32⟩
  | 116 => ⟨S4x1024x1024x1, .i32⟩
  | 117 => ⟨S4x1024x1024x1, .i32⟩
  | 118 => ⟨S4x1024x1024x1, .i32⟩
  | 119 => ⟨S4x1024x1024x4, .i32⟩
  | 120 => ⟨S4x1024x1024x3, .f32⟩
  | 121 => ⟨S4x1024x1024x3, .f32⟩
  | 122 => ⟨S4x1024x1024x3, .f32⟩
  | 123 => ⟨S4x1024x1024x3, .f32⟩
  | 124 => ⟨S4x1024x1024, .f32⟩
  | 125 => ⟨S4x1024x1024, .f32⟩
  | 126 => ⟨S4x1024x1024x1, .f32⟩
  | 127 => ⟨S_, .i32⟩
  | _ => ⟨S4x3x1024x1024, .f32⟩

abbrev hbmTy0_9 (i : Nat) : BufTy := match i % 128 with
  | 0 => ⟨S4x1x1, .i32⟩
  | 1 => ⟨S4x1x1, .i1⟩
  | 2 => ⟨S_, .i32⟩
  | 3 => ⟨S4x1x1, .i32⟩
  | 4 => ⟨S4x1x1, .i32⟩
  | 5 => ⟨S4x1x1, .i32⟩
  | 6 => ⟨S_, .i32⟩
  | 7 => ⟨S4x1024x1024, .i32⟩
  | 8 => ⟨S4x1024x1024, .i1⟩
  | 9 => ⟨S_, .i32⟩
  | 10 => ⟨S4x1024x1024, .i32⟩
  | 11 => ⟨S4x1024x1024, .i32⟩
  | 12 => ⟨S4x1024x1024, .i32⟩
  | 13 => ⟨S_, .i32⟩
  | 14 => ⟨S4x1024x1024, .i32⟩
  | 15 => ⟨S4x1024x1024, .i1⟩
  | 16 => ⟨S_, .i32⟩
  | 17 => ⟨S4x1024x1024, .i32⟩
  | 18 => ⟨S4x1024x1024, .i32⟩
  | 19 => ⟨S4x1024x1024, .i32⟩
  | 20 => ⟨S_, .i32⟩
  | 21 => ⟨S4x1024x1024, .i32⟩
  | 22 => ⟨S4x1024x1024, .i1⟩
  | 23 => ⟨S_, .i32⟩
  | 24 => ⟨S4x1024x1024, .i32⟩
  | 25 => ⟨S4x1024x1024, .i32⟩
  | 26 => ⟨S4x1024x1024, .i32⟩
  | 27 => ⟨S4x1024x1024, .i32⟩
  | 28 => ⟨S4x1024x1024x1, .i32⟩
  | 29 => ⟨S4x1024x1024x1, .i32⟩
  | 30 => ⟨S4x1024x1024x1, .i32⟩
  | 31 => ⟨S4x1024x1024x1, .i32⟩
  | 32 => ⟨S4x1024x1024x4, .i32⟩
  | 33 => ⟨S4x1024x1024x3, .f32⟩
  | 34 => ⟨S4x1024x1024x3, .f32⟩
  | 35 => ⟨S4x1024x1024x3, .f32⟩
  | 36 => ⟨S4x1024x1024x3, .f32⟩
  | 37 => ⟨S_, .f32⟩
  | 38 => ⟨S4x1024x1024, .f32⟩
  | 39 => ⟨S4x1024x1024, .f32⟩
  | 40 => ⟨S_, .f32⟩
  | 41 => ⟨S4x1024x1024, .f32⟩
  | 42 => ⟨S4x1024x1024, .f32⟩
  | 43 => ⟨S4x1024x1024, .f32⟩
  | 44 => ⟨S4x1024x1024, .f32⟩
  | 45 => ⟨S4x1024x1024x1, .f32⟩
  | 46 => ⟨S_, .i32⟩
  | 47 => ⟨S4x1x1, .i32⟩
  | 48 => ⟨S4x1x1, .i1⟩
  | 49 => ⟨S_, .i32⟩
  | 50 => ⟨S4x1x1, .i32⟩
  | 51 => ⟨S4x1x1, .i32⟩
  | 52 => ⟨S4x1x1, .i32⟩
  | 53 => ⟨S_, .i32⟩
  | 54 => ⟨S4x1024x1024, .i32⟩
  | 55 => ⟨S4x1024x1024, .i1⟩
  | 56 => ⟨S_, .i32⟩
  | 57 => ⟨S4x1024x1024, .i32⟩
  | 58 => ⟨S4x1024x1024, .i32⟩
  | 59 => ⟨S4x1024x1024, .i32⟩
  | 60 => ⟨S_, .i32⟩
  | 61 => ⟨S4x1024x1024, .i32⟩
  | 62 => ⟨S4x1024x1024, .i1⟩
  | 63 => ⟨S_, .i32⟩
  | 64 => ⟨S4x1024x1024, .i32⟩
  | 65 => ⟨S4x1024x1024, .i32⟩
  | 66 => ⟨S4x1024x1024, .i32⟩
  | 67 => ⟨S_, .i32⟩
  | 68 => ⟨S4x1024x1024, .i32⟩
  | 69 => ⟨S4x1024x1024, .i1⟩
  | 70 => ⟨S_, .i32⟩
  | 71 => ⟨S4x1024x1024, .i32⟩
  | 72 => ⟨S4x1024x1024, .i32⟩
  | 73 => ⟨S4x1024x1024, .i32⟩
  | 74 => ⟨S4x1024x1024, .i32⟩
  | 75 => ⟨S4x1024x1024x1, .i32⟩
  | 76 => ⟨S4x1024x1024x1, .i32⟩
  | 77 => ⟨S4x1024x1024x1, .i32⟩
  | 78 => ⟨S4x1024x1024x1, .i32⟩
  | 79 => ⟨S4x1024x1024x4, .i32⟩
  | 80 => ⟨S4x1024x1024x3, .f32⟩
  | 81 => ⟨S4x1024x1024x3, .f32⟩
  | 82 => ⟨S4x1024x1024x3, .f32⟩
  | 83 => ⟨S4x1024x1024x3, .f32⟩
  | 84 => ⟨S4x1024x1024, .f32⟩
  | 85 => ⟨S4x1024x1024, .f32⟩
  | 86 => ⟨S4x1024x1024x1, .f32⟩
  | 87 => ⟨S_, .i32⟩
  | 88 => ⟨S4x1x1, .i32⟩
  | 89 => ⟨S4x1x1, .i1⟩
  | 90 => ⟨S_, .i32⟩
  | 91 => ⟨S4x1x1, .i32⟩
  | 92 => ⟨S4x1x1, .i32⟩
  | 93 => ⟨S4x1x1, .i32⟩
  | 94 => ⟨S_, .i32⟩
  | 95 => ⟨S4x1024x1024, .i32⟩
  | 96 => ⟨S4x1024x1024, .i1⟩
  | 97 => ⟨S_, .i32⟩
  | 98 => ⟨S4x1024x1024, .i32⟩
  | 99 => ⟨S4x1024x1024, .i32⟩
  | 100 => ⟨S4x1024x1024, .i32⟩
  | 101 => ⟨S_, .i32⟩
  | 102 => ⟨S4x1024x1024, .i32⟩
  | 103 => ⟨S4x1024x1024, .i1⟩
  | 104 => ⟨S_, .i32⟩
  | 105 => ⟨S4x1024x1024, .i32⟩
  | 106 => ⟨S4x1024x1024, .i32⟩
  | 107 => ⟨S4x1024x1024, .i32⟩
  | 108 => ⟨S_, .i32⟩
  | 109 => ⟨S4x1024x1024, .i32⟩
  | 110 => ⟨S4x1024x1024, .i1⟩
  | 111 => ⟨S_, .i32⟩
  | 112 => ⟨S4x1024x1024, .i32⟩
  | 113 => ⟨S4x1024x1024, .i32⟩
  | 114 => ⟨S4x1024x1024, .i32⟩
  | 115 => ⟨S4x1024x1024, .i32⟩
  | 116 => ⟨S4x1024x1024x1, .i32⟩
  | 117 => ⟨S4x1024x1024x1, .i32⟩
  | 118 => ⟨S4x1024x1024x1, .i32⟩
  | 119 => ⟨S4x1024x1024x1, .i32⟩
  | 120 => ⟨S4x1024x1024x4, .i32⟩
  | 121 => ⟨S4x1024x1024x3, .f32⟩
  | 122 => ⟨S4x1024x1024x3, .f32⟩
  | 123 => ⟨S4x1024x1024x3, .f32⟩
  | 124 => ⟨S4x1024x1024x3, .f32⟩
  | 125 => ⟨S_, .f32⟩
  | 126 => ⟨S4x1024x1024, .f32⟩
  | 127 => ⟨S4x1024x1024, .f32⟩
  | _ => ⟨S4x3x1024x1024, .f32⟩

abbrev hbmTy0_10 (i : Nat) : BufTy := match i % 128 with
  | 0 => ⟨S4x1024x1024, .f32⟩
  | 1 => ⟨S4x1024x1024, .f32⟩
  | 2 => ⟨S4x1024x1024x1, .f32⟩
  | 3 => ⟨S_, .i32⟩
  | 4 => ⟨S4x1x1, .i32⟩
  | 5 => ⟨S4x1x1, .i1⟩
  | 6 => ⟨S_, .i32⟩
  | 7 => ⟨S4x1x1, .i32⟩
  | 8 => ⟨S4x1x1, .i32⟩
  | 9 => ⟨S4x1x1, .i32⟩
  | 10 => ⟨S_, .i32⟩
  | 11 => ⟨S4x1024x1024, .i32⟩
  | 12 => ⟨S4x1024x1024, .i1⟩
  | 13 => ⟨S_, .i32⟩
  | 14 => ⟨S4x1024x1024, .i32⟩
  | 15 => ⟨S4x1024x1024, .i32⟩
  | 16 => ⟨S4x1024x1024, .i32⟩
  | 17 => ⟨S_, .i32⟩
  | 18 => ⟨S4x1024x1024, .i32⟩
  | 19 => ⟨S4x1024x1024, .i1⟩
  | 20 => ⟨S_, .i32⟩
  | 21 => ⟨S4x1024x1024, .i32⟩
  | 22 => ⟨S4x1024x1024, .i32⟩
  | 23 => ⟨S4x1024x1024, .i32⟩
  | 24 => ⟨S_, .i32⟩
  | 25 => ⟨S4x1024x1024, .i32⟩
  | 26 => ⟨S4x1024x1024, .i1⟩
  | 27 => ⟨S_, .i32⟩
  | 28 => ⟨S4x1024x1024, .i32⟩
  | 29 => ⟨S4x1024x1024, .i32⟩
  | 30 => ⟨S4x1024x1024, .i32⟩
  | 31 => ⟨S4x1024x1024, .i32⟩
  | 32 => ⟨S4x1024x1024x1, .i32⟩
  | 33 => ⟨S4x1024x1024x1, .i32⟩
  | 34 => ⟨S4x1024x1024x1, .i32⟩
  | 35 => ⟨S4x1024x1024x1, .i32⟩
  | 36 => ⟨S4x1024x1024x4, .i32⟩
  | 37 => ⟨S4x1024x1024x3, .f32⟩
  | 38 => ⟨S4x1024x1024x3, .f32⟩
  | 39 => ⟨S4x1024x1024x3, .f32⟩
  | 40 => ⟨S4x1024x1024x3, .f32⟩
  | 41 => ⟨S4x1024x1024, .f32⟩
  | 42 => ⟨S4x1024x1024, .f32⟩
  | 43 => ⟨S4x1024x1024x1, .f32⟩
  | 44 => ⟨S_, .i32⟩
  | 45 => ⟨S4x1x1, .i32⟩
  | 46 => ⟨S4x1x1, .i1⟩
  | 47 => ⟨S_, .i32⟩
  | 48 => ⟨S4x1x1, .i32⟩
  | 49 => ⟨S4x1x1, .i32⟩
  | 50 => ⟨S4x1x1, .i32⟩
  | 51 => ⟨S_, .i32⟩
  | 52 => ⟨S4x1024x1024, .i32⟩
  | 53 => ⟨S4x1024x1024, .i1⟩
  | 54 => ⟨S_, .i32⟩
  | 55 => ⟨S4x1024x1024, .i32⟩
  | 56 => ⟨S4x1024x1024, .i32⟩
  | 57 => ⟨S4x1024x1024, .i32⟩
  | 58 => ⟨S_, .i32⟩
  | 59 => ⟨S4x1024x1024, .i32⟩
  | 60 => ⟨S4x1024x1024, .i1⟩
  | 61 => ⟨S_, .i32⟩
  | 62 => ⟨S4x1024x1024, .i32⟩
  | 63 => ⟨S4x1024x1024, .i32⟩
  | 64 => ⟨S4x1024x1024, .i32⟩
  | 65 => ⟨S_, .i32⟩
  | 66 => ⟨S4x1024x1024, .i32⟩
  | 67 => ⟨S4x1024x1024, .i1⟩
  | 68 => ⟨S_, .i32⟩
  | 69 => ⟨S4x1024x1024, .i32⟩
  | 70 => ⟨S4x1024x1024, .i32⟩
  | 71 => ⟨S4x1024x1024, .i32⟩
  | 72 => ⟨S4x1024x1024, .i32⟩
  | 73 => ⟨S4x1024x1024x1, .i32⟩
  | 74 => ⟨S4x1024x1024x1, .i32⟩
  | 75 => ⟨S4x1024x1024x1, .i32⟩
  | 76 => ⟨S4x1024x1024x1, .i32⟩
  | 77 => ⟨S4x1024x1024x4, .i32⟩
  | 78 => ⟨S4x1024x1024x3, .f32⟩
  | 79 => ⟨S4x1024x1024x3, .f32⟩
  | 80 => ⟨S4x1024x1024x3, .f32⟩
  | 81 => ⟨S4x1024x1024x3, .f32⟩
  | 82 => ⟨S4x1024x1024x3, .f32⟩
  | 83 => ⟨S4x3x1024x1024, .f32⟩
  | 84 => ⟨S4x3x1024x1024, .f32⟩
  | _ => ⟨S4x3x1024x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | _ => ⟨S4x3x1024x1024, .f32⟩

abbrev bufTy : (tb : Table) → Fin (tcTables nBuf tb) → BufTy
  | .hbm, ⟨i, _⟩ => hbmTy i
  | _, _ => ⟨S4x3x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_cst : Ref sig .tc := ⟨.hbm, 8, rfl⟩
abbrev main_call0_v3 : Ref sig .tc := ⟨.hbm, 9, rfl⟩
abbrev main_call0_v4 : Ref sig .tc := ⟨.hbm, 10, rfl⟩
abbrev main_call0_cst_0 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_cst_1 : Ref sig .tc := ⟨.hbm, 15, rfl⟩
abbrev main_call0_v8 : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_v12 : Ref sig .tc := ⟨.hbm, 20, rfl⟩
abbrev main_call0_v13 : Ref sig .tc := ⟨.hbm, 21, rfl⟩
abbrev main_call0_v14 : Ref sig .tc := ⟨.hbm, 22, rfl⟩
abbrev main_call0_v15 : Ref sig .tc := ⟨.hbm, 23, rfl⟩
abbrev main_call0_v16 : Ref sig .tc := ⟨.hbm, 24, rfl⟩
abbrev main_v1 : Ref sig .tc := ⟨.hbm, 25, rfl⟩
abbrev main_v2 : Ref sig .tc := ⟨.hbm, 26, rfl⟩
abbrev main_cst_1 : Ref sig .tc := ⟨.hbm, 27, rfl⟩
abbrev main_cst_2 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_cst : Ref sig .tc := ⟨.hbm, 32, rfl⟩
abbrev main_call1_v3 : Ref sig .tc := ⟨.hbm, 33, rfl⟩
abbrev main_call1_v4 : Ref sig .tc := ⟨.hbm, 34, rfl⟩
abbrev main_call1_cst_0 : Ref sig .tc := ⟨.hbm, 35, rfl⟩
abbrev main_call1_v5 : Ref sig .tc := ⟨.hbm, 36, rfl⟩
abbrev main_call1_v6 : Ref sig .tc := ⟨.hbm, 37, rfl⟩
abbrev main_call1_v7 : Ref sig .tc := ⟨.hbm, 38, rfl⟩
abbrev main_call1_cst_1 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_v12 : Ref sig .tc := ⟨.hbm, 44, rfl⟩
abbrev main_call1_v13 : Ref sig .tc := ⟨.hbm, 45, rfl⟩
abbrev main_call1_v14 : Ref sig .tc := ⟨.hbm, 46, rfl⟩
abbrev main_call1_v15 : Ref sig .tc := ⟨.hbm, 47, rfl⟩
abbrev main_call1_v16 : Ref sig .tc := ⟨.hbm, 48, rfl⟩
abbrev main_v3 : Ref sig .tc := ⟨.hbm, 49, rfl⟩
abbrev main_v4 : Ref sig .tc := ⟨.hbm, 50, rfl⟩
abbrev main_v5 : Ref sig .tc := ⟨.hbm, 51, rfl⟩
abbrev main_v6 : Ref sig .tc := ⟨.hbm, 52, rfl⟩
abbrev main_cst_3 : Ref sig .tc := ⟨.hbm, 53, rfl⟩
abbrev main_v7 : Ref sig .tc := ⟨.hbm, 54, rfl⟩
abbrev main_v8 : Ref sig .tc := ⟨.hbm, 55, rfl⟩
abbrev main_v9 : Ref sig .tc := ⟨.hbm, 56, rfl⟩
abbrev main_v10 : Ref sig .tc := ⟨.hbm, 57, rfl⟩
abbrev main_cst_4 : Ref sig .tc := ⟨.hbm, 58, rfl⟩
abbrev main_v11 : Ref sig .tc := ⟨.hbm, 59, rfl⟩
abbrev main_v12 : Ref sig .tc := ⟨.hbm, 60, rfl⟩
abbrev main_cst_5 : Ref sig .tc := ⟨.hbm, 61, rfl⟩
abbrev main_v13 : Ref sig .tc := ⟨.hbm, 62, rfl⟩
abbrev main_v14 : Ref sig .tc := ⟨.hbm, 63, rfl⟩
abbrev main_cst_6 : Ref sig .tc := ⟨.hbm, 64, rfl⟩
abbrev main_v15 : Ref sig .tc := ⟨.hbm, 65, rfl⟩
abbrev main_v16 : Ref sig .tc := ⟨.hbm, 66, rfl⟩
abbrev main_cst_7 : Ref sig .tc := ⟨.hbm, 67, rfl⟩
abbrev main_c : Ref sig .tc := ⟨.hbm, 68, rfl⟩
abbrev main_call2_v0 : Ref sig .tc := ⟨.hbm, 69, rfl⟩
abbrev main_call2_v1 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_v17 : Ref sig .tc := ⟨.hbm, 74, rfl⟩
abbrev main_cst_8 : Ref sig .tc := ⟨.hbm, 75, rfl⟩
abbrev main_v18 : Ref sig .tc := ⟨.hbm, 76, rfl⟩
abbrev main_v19 : Ref sig .tc := ⟨.hbm, 77, rfl⟩
abbrev main_cst_9 : Ref sig .tc := ⟨.hbm, 78, rfl⟩
abbrev main_v20 : Ref sig .tc := ⟨.hbm, 79, rfl⟩
abbrev main_v21 : Ref sig .tc := ⟨.hbm, 80, rfl⟩
abbrev main_cst_10 : Ref sig .tc := ⟨.hbm, 81, rfl⟩
abbrev main_v22 : Ref sig .tc := ⟨.hbm, 82, rfl⟩
abbrev main_v23 : Ref sig .tc := ⟨.hbm, 83, rfl⟩
abbrev main_cst_11 : Ref sig .tc := ⟨.hbm, 84, rfl⟩
abbrev main_c_12 : Ref sig .tc := ⟨.hbm, 85, rfl⟩
abbrev main_call3_v0 : Ref sig .tc := ⟨.hbm, 86, rfl⟩
abbrev main_call3_v1 : Ref sig .tc := ⟨.hbm, 87, rfl⟩
abbrev main_call3_v2 : Ref sig .tc := ⟨.hbm, 88, rfl⟩
abbrev main_call3_v3 : Ref sig .tc := ⟨.hbm, 89, rfl⟩
abbrev main_call3_v4 : Ref sig .tc := ⟨.hbm, 90, rfl⟩
abbrev main_v24 : Ref sig .tc := ⟨.hbm, 91, rfl⟩
abbrev main_cst_13 : Ref sig .tc := ⟨.hbm, 92, rfl⟩
abbrev main_v25 : Ref sig .tc := ⟨.hbm, 93, rfl⟩
abbrev main_v26 : Ref sig .tc := ⟨.hbm, 94, rfl⟩
abbrev main_cst_14 : Ref sig .tc := ⟨.hbm, 95, rfl⟩
abbrev main_v27 : Ref sig .tc := ⟨.hbm, 96, rfl⟩
abbrev main_v28 : Ref sig .tc := ⟨.hbm, 97, rfl⟩
abbrev main_cst_15 : Ref sig .tc := ⟨.hbm, 98, rfl⟩
abbrev main_v29 : Ref sig .tc := ⟨.hbm, 99, rfl⟩
abbrev main_v30 : Ref sig .tc := ⟨.hbm, 100, rfl⟩
abbrev main_cst_16 : Ref sig .tc := ⟨.hbm, 101, rfl⟩
abbrev main_c_17 : Ref sig .tc := ⟨.hbm, 102, rfl⟩
abbrev main_call4_v0 : Ref sig .tc := ⟨.hbm, 103, rfl⟩
abbrev main_call4_v1 : Ref sig .tc := ⟨.hbm, 104, rfl⟩
abbrev main_call4_v2 : Ref sig .tc := ⟨.hbm, 105, rfl⟩
abbrev main_call4_v3 : Ref sig .tc := ⟨.hbm, 106, rfl⟩
abbrev main_call4_v4 : Ref sig .tc := ⟨.hbm, 107, rfl⟩
abbrev main_v31 : Ref sig .tc := ⟨.hbm, 108, rfl⟩
abbrev main_v32 : Ref sig .tc := ⟨.hbm, 109, rfl⟩
abbrev main_v33 : Ref sig .tc := ⟨.hbm, 110, rfl⟩
abbrev main_v34 : Ref sig .tc := ⟨.hbm, 111, rfl⟩
abbrev main_v35 : Ref sig .tc := ⟨.hbm, 112, rfl⟩
abbrev main_v36 : Ref sig .tc := ⟨.hbm, 113, rfl⟩
abbrev main_v37 : Ref sig .tc := ⟨.hbm, 114, rfl⟩
abbrev main_v38 : Ref sig .tc := ⟨.hbm, 115, rfl⟩
abbrev main_c_18 : Ref sig .tc := ⟨.hbm, 116, rfl⟩
abbrev main_v39 : Ref sig .tc := ⟨.hbm, 117, rfl⟩
abbrev main_v40 : Ref sig .tc := ⟨.hbm, 118, rfl⟩
abbrev main_c_19 : Ref sig .tc := ⟨.hbm, 119, rfl⟩
abbrev main_v41 : Ref sig .tc := ⟨.hbm, 120, rfl⟩
abbrev main_v42 : Ref sig .tc := ⟨.hbm, 121, rfl⟩
abbrev main_v43 : Ref sig .tc := ⟨.hbm, 122, rfl⟩
abbrev main_c_20 : Ref sig .tc := ⟨.hbm, 123, rfl⟩
abbrev main_v44 : Ref sig .tc := ⟨.hbm, 124, rfl⟩
abbrev main_v45 : Ref sig .tc := ⟨.hbm, 125, rfl⟩
abbrev main_c_21 : Ref sig .tc := ⟨.hbm, 126, rfl⟩
abbrev main_v46 : Ref sig .tc := ⟨.hbm, 127, rfl⟩
abbrev main_v47 : Ref sig .tc := ⟨.hbm, 128, rfl⟩
abbrev main_v48 : Ref sig .tc := ⟨.hbm, 129, rfl⟩
abbrev main_c_22 : Ref sig .tc := ⟨.hbm, 130, rfl⟩
abbrev main_v49 : Ref sig .tc := ⟨.hbm, 131, rfl⟩
abbrev main_v50 : Ref sig .tc := ⟨.hbm, 132, rfl⟩
abbrev main_c_23 : Ref sig .tc := ⟨.hbm, 133, rfl⟩
abbrev main_v51 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_cst_24 : Ref sig .tc := ⟨.hbm, 139, rfl⟩
abbrev main_v56 : Ref sig .tc := ⟨.hbm, 140, rfl⟩
abbrev main_cst_25 : Ref sig .tc := ⟨.hbm, 141, rfl⟩
abbrev main_v57 : Ref sig .tc := ⟨.hbm, 142, rfl⟩
abbrev main_v58 : Ref sig .tc := ⟨.hbm, 143, rfl⟩
abbrev main_cst_26 : Ref sig .tc := ⟨.hbm, 144, rfl⟩
abbrev main_v59 : Ref sig .tc := ⟨.hbm, 145, rfl⟩
abbrev main_v60 : Ref sig .tc := ⟨.hbm, 146, rfl⟩
abbrev main_cst_27 : Ref sig .tc := ⟨.hbm, 147, rfl⟩
abbrev main_v61 : Ref sig .tc := ⟨.hbm, 148, rfl⟩
abbrev main_v62 : Ref sig .tc := ⟨.hbm, 149, rfl⟩
abbrev main_v63 : Ref sig .tc := ⟨.hbm, 150, rfl⟩
abbrev main_v64 : Ref sig .tc := ⟨.hbm, 151, rfl⟩
abbrev main_v65 : Ref sig .tc := ⟨.hbm, 152, rfl⟩
abbrev main_c_28 : Ref sig .tc := ⟨.hbm, 153, rfl⟩
abbrev main_v66 : Ref sig .tc := ⟨.hbm, 154, rfl⟩
abbrev main_v67 : Ref sig .tc := ⟨.hbm, 155, rfl⟩
abbrev main_c_29 : Ref sig .tc := ⟨.hbm, 156, rfl⟩
abbrev main_v68 : Ref sig .tc := ⟨.hbm, 157, rfl⟩
abbrev main_v69 : Ref sig .tc := ⟨.hbm, 158, rfl⟩
abbrev main_v70 : Ref sig .tc := ⟨.hbm, 159, rfl⟩
abbrev main_c_30 : Ref sig .tc := ⟨.hbm, 160, rfl⟩
abbrev main_v71 : Ref sig .tc := ⟨.hbm, 161, rfl⟩
abbrev main_v72 : Ref sig .tc := ⟨.hbm, 162, rfl⟩
abbrev main_c_31 : Ref sig .tc := ⟨.hbm, 163, rfl⟩
abbrev main_v73 : Ref sig .tc := ⟨.hbm, 164, rfl⟩
abbrev main_v74 : Ref sig .tc := ⟨.hbm, 165, rfl⟩
abbrev main_v75 : Ref sig .tc := ⟨.hbm, 166, rfl⟩
abbrev main_c_32 : Ref sig .tc := ⟨.hbm, 167, rfl⟩
abbrev main_v76 : Ref sig .tc := ⟨.hbm, 168, rfl⟩
abbrev main_v77 : Ref sig .tc := ⟨.hbm, 169, rfl⟩
abbrev main_c_33 : Ref sig .tc := ⟨.hbm, 170, rfl⟩
abbrev main_v78 : Ref sig .tc := ⟨.hbm, 171, rfl⟩
abbrev main_v79 : Ref sig .tc := ⟨.hbm, 172, rfl⟩
abbrev main_v80 : Ref sig .tc := ⟨.hbm, 173, rfl⟩
abbrev main_c_34 : Ref sig .tc := ⟨.hbm, 174, rfl⟩
abbrev main_v81 : Ref sig .tc := ⟨.hbm, 175, rfl⟩
abbrev main_v82 : Ref sig .tc := ⟨.hbm, 176, rfl⟩
abbrev main_c_35 : Ref sig .tc := ⟨.hbm, 177, rfl⟩
abbrev main_v83 : Ref sig .tc := ⟨.hbm, 178, rfl⟩
abbrev main_v84 : Ref sig .tc := ⟨.hbm, 179, rfl⟩
abbrev main_v85 : Ref sig .tc := ⟨.hbm, 180, rfl⟩
abbrev main_v86 : Ref sig .tc := ⟨.hbm, 181, rfl⟩
abbrev main_v87 : Ref sig .tc := ⟨.hbm, 182, rfl⟩
abbrev main_v88 : Ref sig .tc := ⟨.hbm, 183, rfl⟩
abbrev main_v89 : Ref sig .tc := ⟨.hbm, 184, rfl⟩
abbrev main_v90 : Ref sig .tc := ⟨.hbm, 185, rfl⟩
abbrev main_v91 : Ref sig .tc := ⟨.hbm, 186, rfl⟩
abbrev main_v92 : Ref sig .tc := ⟨.hbm, 187, rfl⟩
abbrev main_v93 : Ref sig .tc := ⟨.hbm, 188, rfl⟩
abbrev main_v94 : Ref sig .tc := ⟨.hbm, 189, rfl⟩
abbrev main_v95 : Ref sig .tc := ⟨.hbm, 190, rfl⟩
abbrev main_v96 : Ref sig .tc := ⟨.hbm, 191, rfl⟩
abbrev main_v97 : Ref sig .tc := ⟨.hbm, 192, rfl⟩
abbrev main_v98 : Ref sig .tc := ⟨.hbm, 193, rfl⟩
abbrev main_c_36 : Ref sig .tc := ⟨.hbm, 194, rfl⟩
abbrev main_v99 : Ref sig .tc := ⟨.hbm, 195, rfl⟩
abbrev main_v100 : Ref sig .tc := ⟨.hbm, 196, rfl⟩
abbrev main_c_37 : Ref sig .tc := ⟨.hbm, 197, rfl⟩
abbrev main_v101 : Ref sig .tc := ⟨.hbm, 198, rfl⟩
abbrev main_v102 : Ref sig .tc := ⟨.hbm, 199, rfl⟩
abbrev main_v103 : Ref sig .tc := ⟨.hbm, 200, rfl⟩
abbrev main_c_38 : Ref sig .tc := ⟨.hbm, 201, rfl⟩
abbrev main_v104 : Ref sig .tc := ⟨.hbm, 202, rfl⟩
abbrev main_v105 : Ref sig .tc := ⟨.hbm, 203, rfl⟩
abbrev main_c_39 : Ref sig .tc := ⟨.hbm, 204, rfl⟩
abbrev main_v106 : Ref sig .tc := ⟨.hbm, 205, rfl⟩
abbrev main_v107 : Ref sig .tc := ⟨.hbm, 206, rfl⟩
abbrev main_v108 : Ref sig .tc := ⟨.hbm, 207, rfl⟩
abbrev main_c_40 : Ref sig .tc := ⟨.hbm, 208, rfl⟩
abbrev main_v109 : Ref sig .tc := ⟨.hbm, 209, rfl⟩
abbrev main_v110 : Ref sig .tc := ⟨.hbm, 210, rfl⟩
abbrev main_c_41 : Ref sig .tc := ⟨.hbm, 211, rfl⟩
abbrev main_v111 : Ref sig .tc := ⟨.hbm, 212, rfl⟩
abbrev main_v112 : Ref sig .tc := ⟨.hbm, 213, rfl⟩
abbrev main_v113 : Ref sig .tc := ⟨.hbm, 214, rfl⟩
abbrev main_c_42 : Ref sig .tc := ⟨.hbm, 215, rfl⟩
abbrev main_v114 : Ref sig .tc := ⟨.hbm, 216, rfl⟩
abbrev main_v115 : Ref sig .tc := ⟨.hbm, 217, rfl⟩
abbrev main_c_43 : Ref sig .tc := ⟨.hbm, 218, rfl⟩
abbrev main_v116 : Ref sig .tc := ⟨.hbm, 219, rfl⟩
abbrev main_v117 : Ref sig .tc := ⟨.hbm, 220, rfl⟩
abbrev main_v118 : Ref sig .tc := ⟨.hbm, 221, rfl⟩
abbrev main_v119 : Ref sig .tc := ⟨.hbm, 222, rfl⟩
abbrev main_v120 : Ref sig .tc := ⟨.hbm, 223, rfl⟩
abbrev main_v121 : Ref sig .tc := ⟨.hbm, 224, rfl⟩
abbrev main_v122 : Ref sig .tc := ⟨.hbm, 225, rfl⟩
abbrev main_v123 : Ref sig .tc := ⟨.hbm, 226, rfl⟩
abbrev main_v124 : Ref sig .tc := ⟨.hbm, 227, rfl⟩
abbrev main_v125 : Ref sig .tc := ⟨.hbm, 228, rfl⟩
abbrev main_v126 : Ref sig .tc := ⟨.hbm, 229, rfl⟩
abbrev main_v127 : Ref sig .tc := ⟨.hbm, 230, rfl⟩
abbrev main_v128 : Ref sig .tc := ⟨.hbm, 231, rfl⟩
abbrev main_cst_44 : Ref sig .tc := ⟨.hbm, 232, rfl⟩
abbrev main_v129 : Ref sig .tc := ⟨.hbm, 233, rfl⟩
abbrev main_v130 : Ref sig .tc := ⟨.hbm, 234, rfl⟩
abbrev main_v131 : Ref sig .tc := ⟨.hbm, 235, rfl⟩
abbrev main_v132 : Ref sig .tc := ⟨.hbm, 236, rfl⟩
abbrev main_v133 : Ref sig .tc := ⟨.hbm, 237, rfl⟩
abbrev main_c_45 : Ref sig .tc := ⟨.hbm, 238, rfl⟩
abbrev main_v134 : Ref sig .tc := ⟨.hbm, 239, rfl⟩
abbrev main_v135 : Ref sig .tc := ⟨.hbm, 240, rfl⟩
abbrev main_c_46 : Ref sig .tc := ⟨.hbm, 241, rfl⟩
abbrev main_v136 : Ref sig .tc := ⟨.hbm, 242, rfl⟩
abbrev main_v137 : Ref sig .tc := ⟨.hbm, 243, rfl⟩
abbrev main_v138 : Ref sig .tc := ⟨.hbm, 244, rfl⟩
abbrev main_c_47 : Ref sig .tc := ⟨.hbm, 245, rfl⟩
abbrev main_v139 : Ref sig .tc := ⟨.hbm, 246, rfl⟩
abbrev main_v140 : Ref sig .tc := ⟨.hbm, 247, rfl⟩
abbrev main_c_48 : Ref sig .tc := ⟨.hbm, 248, rfl⟩
abbrev main_v141 : Ref sig .tc := ⟨.hbm, 249, rfl⟩
abbrev main_v142 : Ref sig .tc := ⟨.hbm, 250, rfl⟩
abbrev main_v143 : Ref sig .tc := ⟨.hbm, 251, rfl⟩
abbrev main_c_49 : Ref sig .tc := ⟨.hbm, 252, rfl⟩
abbrev main_v144 : Ref sig .tc := ⟨.hbm, 253, rfl⟩
abbrev main_v145 : Ref sig .tc := ⟨.hbm, 254, rfl⟩
abbrev main_c_50 : Ref sig .tc := ⟨.hbm, 255, rfl⟩
abbrev main_v146 : Ref sig .tc := ⟨.hbm, 256, rfl⟩
abbrev main_v147 : Ref sig .tc := ⟨.hbm, 257, rfl⟩
abbrev main_v148 : Ref sig .tc := ⟨.hbm, 258, rfl⟩
abbrev main_c_51 : Ref sig .tc := ⟨.hbm, 259, rfl⟩
abbrev main_v149 : Ref sig .tc := ⟨.hbm, 260, rfl⟩
abbrev main_v150 : Ref sig .tc := ⟨.hbm, 261, rfl⟩
abbrev main_c_52 : Ref sig .tc := ⟨.hbm, 262, rfl⟩
abbrev main_v151 : Ref sig .tc := ⟨.hbm, 263, rfl⟩
abbrev main_v152 : Ref sig .tc := ⟨.hbm, 264, rfl⟩
abbrev main_v153 : Ref sig .tc := ⟨.hbm, 265, rfl⟩
abbrev main_v154 : Ref sig .tc := ⟨.hbm, 266, rfl⟩
abbrev main_v155 : Ref sig .tc := ⟨.hbm, 267, rfl⟩
abbrev main_v156 : Ref sig .tc := ⟨.hbm, 268, rfl⟩
abbrev main_v157 : Ref sig .tc := ⟨.hbm, 269, rfl⟩
abbrev main_v158 : Ref sig .tc := ⟨.hbm, 270, rfl⟩
abbrev main_v159 : Ref sig .tc := ⟨.hbm, 271, rfl⟩
abbrev main_v160 : Ref sig .tc := ⟨.hbm, 272, rfl⟩
abbrev main_v161 : Ref sig .tc := ⟨.hbm, 273, rfl⟩
abbrev main_v162 : Ref sig .tc := ⟨.hbm, 274, rfl⟩
abbrev main_v163 : Ref sig .tc := ⟨.hbm, 275, rfl⟩
abbrev main_v164 : Ref sig .tc := ⟨.hbm, 276, rfl⟩
abbrev main_v165 : Ref sig .tc := ⟨.hbm, 277, rfl⟩
abbrev main_v166 : Ref sig .tc := ⟨.hbm, 278, rfl⟩
abbrev main_c_53 : Ref sig .tc := ⟨.hbm, 279, rfl⟩
abbrev main_v167 : Ref sig .tc := ⟨.hbm, 280, rfl⟩
abbrev main_v168 : Ref sig .tc := ⟨.hbm, 281, rfl⟩
abbrev main_c_54 : Ref sig .tc := ⟨.hbm, 282, rfl⟩
abbrev main_v169 : Ref sig .tc := ⟨.hbm, 283, rfl⟩
abbrev main_v170 : Ref sig .tc := ⟨.hbm, 284, rfl⟩
abbrev main_v171 : Ref sig .tc := ⟨.hbm, 285, rfl⟩
abbrev main_c_55 : Ref sig .tc := ⟨.hbm, 286, rfl⟩
abbrev main_v172 : Ref sig .tc := ⟨.hbm, 287, rfl⟩
abbrev main_v173 : Ref sig .tc := ⟨.hbm, 288, rfl⟩
abbrev main_c_56 : Ref sig .tc := ⟨.hbm, 289, rfl⟩
abbrev main_v174 : Ref sig .tc := ⟨.hbm, 290, rfl⟩
abbrev main_v175 : Ref sig .tc := ⟨.hbm, 291, rfl⟩
abbrev main_v176 : Ref sig .tc := ⟨.hbm, 292, rfl⟩
abbrev main_c_57 : Ref sig .tc := ⟨.hbm, 293, rfl⟩
abbrev main_v177 : Ref sig .tc := ⟨.hbm, 294, rfl⟩
abbrev main_v178 : Ref sig .tc := ⟨.hbm, 295, rfl⟩
abbrev main_c_58 : Ref sig .tc := ⟨.hbm, 296, rfl⟩
abbrev main_v179 : Ref sig .tc := ⟨.hbm, 297, rfl⟩
abbrev main_v180 : Ref sig .tc := ⟨.hbm, 298, rfl⟩
abbrev main_v181 : Ref sig .tc := ⟨.hbm, 299, rfl⟩
abbrev main_c_59 : Ref sig .tc := ⟨.hbm, 300, rfl⟩
abbrev main_v182 : Ref sig .tc := ⟨.hbm, 301, rfl⟩
abbrev main_v183 : Ref sig .tc := ⟨.hbm, 302, rfl⟩
abbrev main_c_60 : Ref sig .tc := ⟨.hbm, 303, rfl⟩
abbrev main_v184 : Ref sig .tc := ⟨.hbm, 304, rfl⟩
abbrev main_v185 : Ref sig .tc := ⟨.hbm, 305, rfl⟩
abbrev main_v186 : Ref sig .tc := ⟨.hbm, 306, rfl⟩
abbrev main_v187 : Ref sig .tc := ⟨.hbm, 307, rfl⟩
abbrev main_v188 : Ref sig .tc := ⟨.hbm, 308, rfl⟩
abbrev main_v189 : Ref sig .tc := ⟨.hbm, 309, rfl⟩
abbrev main_v190 : Ref sig .tc := ⟨.hbm, 310, rfl⟩
abbrev main_v191 : Ref sig .tc := ⟨.hbm, 311, rfl⟩
abbrev main_v192 : Ref sig .tc := ⟨.hbm, 312, rfl⟩
abbrev main_v193 : Ref sig .tc := ⟨.hbm, 313, rfl⟩
abbrev main_v194 : Ref sig .tc := ⟨.hbm, 314, rfl⟩
abbrev main_v195 : Ref sig .tc := ⟨.hbm, 315, rfl⟩
abbrev main_v196 : Ref sig .tc := ⟨.hbm, 316, rfl⟩
abbrev main_cst_61 : Ref sig .tc := ⟨.hbm, 317, rfl⟩
abbrev main_v197 : Ref sig .tc := ⟨.hbm, 318, rfl⟩
abbrev main_v198 : Ref sig .tc := ⟨.hbm, 319, rfl⟩
abbrev main_cst_62 : Ref sig .tc := ⟨.hbm, 320, rfl⟩
abbrev main_v199 : Ref sig .tc := ⟨.hbm, 321, rfl⟩
abbrev main_v200 : Ref sig .tc := ⟨.hbm, 322, rfl⟩
abbrev main_v201 : Ref sig .tc := ⟨.hbm, 323, rfl⟩
abbrev main_v202 : Ref sig .tc := ⟨.hbm, 324, rfl⟩
abbrev main_v203 : Ref sig .tc := ⟨.hbm, 325, rfl⟩
abbrev main_c_63 : Ref sig .tc := ⟨.hbm, 326, rfl⟩
abbrev main_v204 : Ref sig .tc := ⟨.hbm, 327, rfl⟩
abbrev main_v205 : Ref sig .tc := ⟨.hbm, 328, rfl⟩
abbrev main_c_64 : Ref sig .tc := ⟨.hbm, 329, rfl⟩
abbrev main_v206 : Ref sig .tc := ⟨.hbm, 330, rfl⟩
abbrev main_v207 : Ref sig .tc := ⟨.hbm, 331, rfl⟩
abbrev main_v208 : Ref sig .tc := ⟨.hbm, 332, rfl⟩
abbrev main_c_65 : Ref sig .tc := ⟨.hbm, 333, rfl⟩
abbrev main_v209 : Ref sig .tc := ⟨.hbm, 334, rfl⟩
abbrev main_v210 : Ref sig .tc := ⟨.hbm, 335, rfl⟩
abbrev main_c_66 : Ref sig .tc := ⟨.hbm, 336, rfl⟩
abbrev main_v211 : Ref sig .tc := ⟨.hbm, 337, rfl⟩
abbrev main_v212 : Ref sig .tc := ⟨.hbm, 338, rfl⟩
abbrev main_v213 : Ref sig .tc := ⟨.hbm, 339, rfl⟩
abbrev main_c_67 : Ref sig .tc := ⟨.hbm, 340, rfl⟩
abbrev main_v214 : Ref sig .tc := ⟨.hbm, 341, rfl⟩
abbrev main_v215 : Ref sig .tc := ⟨.hbm, 342, rfl⟩
abbrev main_c_68 : Ref sig .tc := ⟨.hbm, 343, rfl⟩
abbrev main_v216 : Ref sig .tc := ⟨.hbm, 344, rfl⟩
abbrev main_v217 : Ref sig .tc := ⟨.hbm, 345, rfl⟩
abbrev main_v218 : Ref sig .tc := ⟨.hbm, 346, rfl⟩
abbrev main_c_69 : Ref sig .tc := ⟨.hbm, 347, rfl⟩
abbrev main_v219 : Ref sig .tc := ⟨.hbm, 348, rfl⟩
abbrev main_v220 : Ref sig .tc := ⟨.hbm, 349, rfl⟩
abbrev main_c_70 : Ref sig .tc := ⟨.hbm, 350, rfl⟩
abbrev main_v221 : Ref sig .tc := ⟨.hbm, 351, rfl⟩
abbrev main_v222 : Ref sig .tc := ⟨.hbm, 352, rfl⟩
abbrev main_v223 : Ref sig .tc := ⟨.hbm, 353, rfl⟩
abbrev main_v224 : Ref sig .tc := ⟨.hbm, 354, rfl⟩
abbrev main_v225 : Ref sig .tc := ⟨.hbm, 355, rfl⟩
abbrev main_v226 : Ref sig .tc := ⟨.hbm, 356, rfl⟩
abbrev main_v227 : Ref sig .tc := ⟨.hbm, 357, rfl⟩
abbrev main_v228 : Ref sig .tc := ⟨.hbm, 358, rfl⟩
abbrev main_v229 : Ref sig .tc := ⟨.hbm, 359, rfl⟩
abbrev main_v230 : Ref sig .tc := ⟨.hbm, 360, rfl⟩
abbrev main_v231 : Ref sig .tc := ⟨.hbm, 361, rfl⟩
abbrev main_v232 : Ref sig .tc := ⟨.hbm, 362, rfl⟩
abbrev main_v233 : Ref sig .tc := ⟨.hbm, 363, rfl⟩
abbrev main_v234 : Ref sig .tc := ⟨.hbm, 364, rfl⟩
abbrev main_v235 : Ref sig .tc := ⟨.hbm, 365, rfl⟩
abbrev main_v236 : Ref sig .tc := ⟨.hbm, 366, rfl⟩
abbrev main_c_71 : Ref sig .tc := ⟨.hbm, 367, rfl⟩
abbrev main_v237 : Ref sig .tc := ⟨.hbm, 368, rfl⟩
abbrev main_v238 : Ref sig .tc := ⟨.hbm, 369, rfl⟩
abbrev main_c_72 : Ref sig .tc := ⟨.hbm, 370, rfl⟩
abbrev main_v239 : Ref sig .tc := ⟨.hbm, 371, rfl⟩
abbrev main_v240 : Ref sig .tc := ⟨.hbm, 372, rfl⟩
abbrev main_v241 : Ref sig .tc := ⟨.hbm, 373, rfl⟩
abbrev main_c_73 : Ref sig .tc := ⟨.hbm, 374, rfl⟩
abbrev main_v242 : Ref sig .tc := ⟨.hbm, 375, rfl⟩
abbrev main_v243 : Ref sig .tc := ⟨.hbm, 376, rfl⟩
abbrev main_c_74 : Ref sig .tc := ⟨.hbm, 377, rfl⟩
abbrev main_v244 : Ref sig .tc := ⟨.hbm, 378, rfl⟩
abbrev main_v245 : Ref sig .tc := ⟨.hbm, 379, rfl⟩
abbrev main_v246 : Ref sig .tc := ⟨.hbm, 380, rfl⟩
abbrev main_c_75 : Ref sig .tc := ⟨.hbm, 381, rfl⟩
abbrev main_v247 : Ref sig .tc := ⟨.hbm, 382, rfl⟩
abbrev main_v248 : Ref sig .tc := ⟨.hbm, 383, rfl⟩
abbrev main_c_76 : Ref sig .tc := ⟨.hbm, 384, rfl⟩
abbrev main_v249 : Ref sig .tc := ⟨.hbm, 385, rfl⟩
abbrev main_v250 : Ref sig .tc := ⟨.hbm, 386, rfl⟩
abbrev main_v251 : Ref sig .tc := ⟨.hbm, 387, rfl⟩
abbrev main_c_77 : Ref sig .tc := ⟨.hbm, 388, rfl⟩
abbrev main_v252 : Ref sig .tc := ⟨.hbm, 389, rfl⟩
abbrev main_v253 : Ref sig .tc := ⟨.hbm, 390, rfl⟩
abbrev main_c_78 : Ref sig .tc := ⟨.hbm, 391, rfl⟩
abbrev main_v254 : Ref sig .tc := ⟨.hbm, 392, rfl⟩
abbrev main_v255 : Ref sig .tc := ⟨.hbm, 393, rfl⟩
abbrev main_v256 : Ref sig .tc := ⟨.hbm, 394, rfl⟩
abbrev main_v257 : Ref sig .tc := ⟨.hbm, 395, rfl⟩
abbrev main_v258 : Ref sig .tc := ⟨.hbm, 396, rfl⟩
abbrev main_v259 : Ref sig .tc := ⟨.hbm, 397, rfl⟩
abbrev main_v260 : Ref sig .tc := ⟨.hbm, 398, rfl⟩
abbrev main_v261 : Ref sig .tc := ⟨.hbm, 399, rfl⟩
abbrev main_v262 : Ref sig .tc := ⟨.hbm, 400, rfl⟩
abbrev main_v263 : Ref sig .tc := ⟨.hbm, 401, rfl⟩
abbrev main_v264 : Ref sig .tc := ⟨.hbm, 402, rfl⟩
abbrev main_v265 : Ref sig .tc := ⟨.hbm, 403, rfl⟩
abbrev main_v266 : Ref sig .tc := ⟨.hbm, 404, rfl⟩
abbrev main_cst_79 : Ref sig .tc := ⟨.hbm, 405, rfl⟩
abbrev main_v267 : Ref sig .tc := ⟨.hbm, 406, rfl⟩
abbrev main_v268 : Ref sig .tc := ⟨.hbm, 407, rfl⟩
abbrev main_v269 : Ref sig .tc := ⟨.hbm, 408, rfl⟩
abbrev main_v270 : Ref sig .tc := ⟨.hbm, 409, rfl⟩
abbrev main_v271 : Ref sig .tc := ⟨.hbm, 410, rfl⟩
abbrev main_c_80 : Ref sig .tc := ⟨.hbm, 411, rfl⟩
abbrev main_v272 : Ref sig .tc := ⟨.hbm, 412, rfl⟩
abbrev main_v273 : Ref sig .tc := ⟨.hbm, 413, rfl⟩
abbrev main_c_81 : Ref sig .tc := ⟨.hbm, 414, rfl⟩
abbrev main_v274 : Ref sig .tc := ⟨.hbm, 415, rfl⟩
abbrev main_v275 : Ref sig .tc := ⟨.hbm, 416, rfl⟩
abbrev main_v276 : Ref sig .tc := ⟨.hbm, 417, rfl⟩
abbrev main_c_82 : Ref sig .tc := ⟨.hbm, 418, rfl⟩
abbrev main_v277 : Ref sig .tc := ⟨.hbm, 419, rfl⟩
abbrev main_v278 : Ref sig .tc := ⟨.hbm, 420, rfl⟩
abbrev main_c_83 : Ref sig .tc := ⟨.hbm, 421, rfl⟩
abbrev main_v279 : Ref sig .tc := ⟨.hbm, 422, rfl⟩
abbrev main_v280 : Ref sig .tc := ⟨.hbm, 423, rfl⟩
abbrev main_v281 : Ref sig .tc := ⟨.hbm, 424, rfl⟩
abbrev main_c_84 : Ref sig .tc := ⟨.hbm, 425, rfl⟩
abbrev main_v282 : Ref sig .tc := ⟨.hbm, 426, rfl⟩
abbrev main_v283 : Ref sig .tc := ⟨.hbm, 427, rfl⟩
abbrev main_c_85 : Ref sig .tc := ⟨.hbm, 428, rfl⟩
abbrev main_v284 : Ref sig .tc := ⟨.hbm, 429, rfl⟩
abbrev main_v285 : Ref sig .tc := ⟨.hbm, 430, rfl⟩
abbrev main_v286 : Ref sig .tc := ⟨.hbm, 431, rfl⟩
abbrev main_c_86 : Ref sig .tc := ⟨.hbm, 432, rfl⟩
abbrev main_v287 : Ref sig .tc := ⟨.hbm, 433, rfl⟩
abbrev main_v288 : Ref sig .tc := ⟨.hbm, 434, rfl⟩
abbrev main_c_87 : Ref sig .tc := ⟨.hbm, 435, rfl⟩
abbrev main_v289 : Ref sig .tc := ⟨.hbm, 436, rfl⟩
abbrev main_v290 : Ref sig .tc := ⟨.hbm, 437, rfl⟩
abbrev main_v291 : Ref sig .tc := ⟨.hbm, 438, rfl⟩
abbrev main_v292 : Ref sig .tc := ⟨.hbm, 439, rfl⟩
abbrev main_v293 : Ref sig .tc := ⟨.hbm, 440, rfl⟩
abbrev main_v294 : Ref sig .tc := ⟨.hbm, 441, rfl⟩
abbrev main_v295 : Ref sig .tc := ⟨.hbm, 442, rfl⟩
abbrev main_v296 : Ref sig .tc := ⟨.hbm, 443, rfl⟩
abbrev main_v297 : Ref sig .tc := ⟨.hbm, 444, rfl⟩
abbrev main_v298 : Ref sig .tc := ⟨.hbm, 445, rfl⟩
abbrev main_v299 : Ref sig .tc := ⟨.hbm, 446, rfl⟩
abbrev main_v300 : Ref sig .tc := ⟨.hbm, 447, rfl⟩
abbrev main_v301 : Ref sig .tc := ⟨.hbm, 448, rfl⟩
abbrev main_v302 : Ref sig .tc := ⟨.hbm, 449, rfl⟩
abbrev main_v303 : Ref sig .tc := ⟨.hbm, 450, rfl⟩
abbrev main_v304 : Ref sig .tc := ⟨.hbm, 451, rfl⟩
abbrev main_c_88 : Ref sig .tc := ⟨.hbm, 452, rfl⟩
abbrev main_v305 : Ref sig .tc := ⟨.hbm, 453, rfl⟩
abbrev main_v306 : Ref sig .tc := ⟨.hbm, 454, rfl⟩
abbrev main_c_89 : Ref sig .tc := ⟨.hbm, 455, rfl⟩
abbrev main_v307 : Ref sig .tc := ⟨.hbm, 456, rfl⟩
abbrev main_v308 : Ref sig .tc := ⟨.hbm, 457, rfl⟩
abbrev main_v309 : Ref sig .tc := ⟨.hbm, 458, rfl⟩
abbrev main_c_90 : Ref sig .tc := ⟨.hbm, 459, rfl⟩
abbrev main_v310 : Ref sig .tc := ⟨.hbm, 460, rfl⟩
abbrev main_v311 : Ref sig .tc := ⟨.hbm, 461, rfl⟩
abbrev main_c_91 : Ref sig .tc := ⟨.hbm, 462, rfl⟩
abbrev main_v312 : Ref sig .tc := ⟨.hbm, 463, rfl⟩
abbrev main_v313 : Ref sig .tc := ⟨.hbm, 464, rfl⟩
abbrev main_v314 : Ref sig .tc := ⟨.hbm, 465, rfl⟩
abbrev main_c_92 : Ref sig .tc := ⟨.hbm, 466, rfl⟩
abbrev main_v315 : Ref sig .tc := ⟨.hbm, 467, rfl⟩
abbrev main_v316 : Ref sig .tc := ⟨.hbm, 468, rfl⟩
abbrev main_c_93 : Ref sig .tc := ⟨.hbm, 469, rfl⟩
abbrev main_v317 : Ref sig .tc := ⟨.hbm, 470, rfl⟩
abbrev main_v318 : Ref sig .tc := ⟨.hbm, 471, rfl⟩
abbrev main_v319 : Ref sig .tc := ⟨.hbm, 472, rfl⟩
abbrev main_c_94 : Ref sig .tc := ⟨.hbm, 473, rfl⟩
abbrev main_v320 : Ref sig .tc := ⟨.hbm, 474, rfl⟩
abbrev main_v321 : Ref sig .tc := ⟨.hbm, 475, rfl⟩
abbrev main_c_95 : Ref sig .tc := ⟨.hbm, 476, rfl⟩
abbrev main_v322 : Ref sig .tc := ⟨.hbm, 477, rfl⟩
abbrev main_v323 : Ref sig .tc := ⟨.hbm, 478, rfl⟩
abbrev main_v324 : Ref sig .tc := ⟨.hbm, 479, rfl⟩
abbrev main_v325 : Ref sig .tc := ⟨.hbm, 480, rfl⟩
abbrev main_v326 : Ref sig .tc := ⟨.hbm, 481, rfl⟩
abbrev main_v327 : Ref sig .tc := ⟨.hbm, 482, rfl⟩
abbrev main_v328 : Ref sig .tc := ⟨.hbm, 483, rfl⟩
abbrev main_v329 : Ref sig .tc := ⟨.hbm, 484, rfl⟩
abbrev main_v330 : Ref sig .tc := ⟨.hbm, 485, rfl⟩
abbrev main_v331 : Ref sig .tc := ⟨.hbm, 486, rfl⟩
abbrev main_v332 : Ref sig .tc := ⟨.hbm, 487, rfl⟩
abbrev main_v333 : Ref sig .tc := ⟨.hbm, 488, rfl⟩
abbrev main_v334 : Ref sig .tc := ⟨.hbm, 489, rfl⟩
abbrev main_v335 : Ref sig .tc := ⟨.hbm, 490, rfl⟩
abbrev main_v336 : Ref sig .tc := ⟨.hbm, 491, rfl⟩
abbrev main_v337 : Ref sig .tc := ⟨.hbm, 492, rfl⟩
abbrev main_v338 : Ref sig .tc := ⟨.hbm, 493, rfl⟩
abbrev main_cst_96 : Ref sig .tc := ⟨.hbm, 494, rfl⟩
abbrev main_v339 : Ref sig .tc := ⟨.hbm, 495, rfl⟩
abbrev main_v340 : Ref sig .tc := ⟨.hbm, 496, rfl⟩
abbrev main_cst_97 : Ref sig .tc := ⟨.hbm, 497, rfl⟩
abbrev main_v341 : Ref sig .tc := ⟨.hbm, 498, rfl⟩
abbrev main_v342 : Ref sig .tc := ⟨.hbm, 499, rfl⟩
abbrev main_cst_98 : Ref sig .tc := ⟨.hbm, 500, rfl⟩
abbrev main_v343 : Ref sig .tc := ⟨.hbm, 501, rfl⟩
abbrev main_v344 : Ref sig .tc := ⟨.hbm, 502, rfl⟩
abbrev main_cst_99 : Ref sig .tc := ⟨.hbm, 503, rfl⟩
abbrev main_c_100 : Ref sig .tc := ⟨.hbm, 504, rfl⟩
abbrev main_call5_v0 : Ref sig .tc := ⟨.hbm, 505, rfl⟩
abbrev main_call5_v1 : Ref sig .tc := ⟨.hbm, 506, rfl⟩
abbrev main_call5_v2 : Ref sig .tc := ⟨.hbm, 507, rfl⟩
abbrev main_call5_v3 : Ref sig .tc := ⟨.hbm, 508, rfl⟩
abbrev main_call5_v4 : Ref sig .tc := ⟨.hbm, 509, rfl⟩
abbrev main_v345 : Ref sig .tc := ⟨.hbm, 510, rfl⟩
abbrev main_cst_101 : Ref sig .tc := ⟨.hbm, 511, rfl⟩
abbrev main_v346 : Ref sig .tc := ⟨.hbm, 512, rfl⟩
abbrev main_v347 : Ref sig .tc := ⟨.hbm, 513, rfl⟩
abbrev main_cst_102 : Ref sig .tc := ⟨.hbm, 514, rfl⟩
abbrev main_v348 : Ref sig .tc := ⟨.hbm, 515, rfl⟩
abbrev main_v349 : Ref sig .tc := ⟨.hbm, 516, rfl⟩
abbrev main_cst_103 : Ref sig .tc := ⟨.hbm, 517, rfl⟩
abbrev main_v350 : Ref sig .tc := ⟨.hbm, 518, rfl⟩
abbrev main_v351 : Ref sig .tc := ⟨.hbm, 519, rfl⟩
abbrev main_cst_104 : Ref sig .tc := ⟨.hbm, 520, rfl⟩
abbrev main_c_105 : Ref sig .tc := ⟨.hbm, 521, rfl⟩
abbrev main_call6_v0 : Ref sig .tc := ⟨.hbm, 522, rfl⟩
abbrev main_call6_v1 : Ref sig .tc := ⟨.hbm, 523, rfl⟩
abbrev main_call6_v2 : Ref sig .tc := ⟨.hbm, 524, rfl⟩
abbrev main_call6_v3 : Ref sig .tc := ⟨.hbm, 525, rfl⟩
abbrev main_call6_v4 : Ref sig .tc := ⟨.hbm, 526, rfl⟩
abbrev main_v352 : Ref sig .tc := ⟨.hbm, 527, rfl⟩
abbrev main_cst_106 : Ref sig .tc := ⟨.hbm, 528, rfl⟩
abbrev main_v353 : Ref sig .tc := ⟨.hbm, 529, rfl⟩
abbrev main_v354 : Ref sig .tc := ⟨.hbm, 530, rfl⟩
abbrev main_cst_107 : Ref sig .tc := ⟨.hbm, 531, rfl⟩
abbrev main_v355 : Ref sig .tc := ⟨.hbm, 532, rfl⟩
abbrev main_v356 : Ref sig .tc := ⟨.hbm, 533, rfl⟩
abbrev main_cst_108 : Ref sig .tc := ⟨.hbm, 534, rfl⟩
abbrev main_v357 : Ref sig .tc := ⟨.hbm, 535, rfl⟩
abbrev main_v358 : Ref sig .tc := ⟨.hbm, 536, rfl⟩
abbrev main_cst_109 : Ref sig .tc := ⟨.hbm, 537, rfl⟩
abbrev main_c_110 : Ref sig .tc := ⟨.hbm, 538, rfl⟩
abbrev main_call7_v0 : Ref sig .tc := ⟨.hbm, 539, rfl⟩
abbrev main_call7_v1 : Ref sig .tc := ⟨.hbm, 540, rfl⟩
abbrev main_call7_v2 : Ref sig .tc := ⟨.hbm, 541, rfl⟩
abbrev main_call7_v3 : Ref sig .tc := ⟨.hbm, 542, rfl⟩
abbrev main_call7_v4 : Ref sig .tc := ⟨.hbm, 543, rfl⟩
abbrev main_v359 : Ref sig .tc := ⟨.hbm, 544, rfl⟩
abbrev main_v360 : Ref sig .tc := ⟨.hbm, 545, rfl⟩
abbrev main_v361 : Ref sig .tc := ⟨.hbm, 546, rfl⟩
abbrev main_v362 : Ref sig .tc := ⟨.hbm, 547, rfl⟩
abbrev main_v363 : Ref sig .tc := ⟨.hbm, 548, rfl⟩
abbrev main_v364 : Ref sig .tc := ⟨.hbm, 549, rfl⟩
abbrev main_v365 : Ref sig .tc := ⟨.hbm, 550, rfl⟩
abbrev main_v366 : Ref sig .tc := ⟨.hbm, 551, rfl⟩
abbrev main_c_111 : Ref sig .tc := ⟨.hbm, 552, rfl⟩
abbrev main_v367 : Ref sig .tc := ⟨.hbm, 553, rfl⟩
abbrev main_v368 : Ref sig .tc := ⟨.hbm, 554, rfl⟩
abbrev main_c_112 : Ref sig .tc := ⟨.hbm, 555, rfl⟩
abbrev main_v369 : Ref sig .tc := ⟨.hbm, 556, rfl⟩
abbrev main_v370 : Ref sig .tc := ⟨.hbm, 557, rfl⟩
abbrev main_v371 : Ref sig .tc := ⟨.hbm, 558, rfl⟩
abbrev main_c_113 : Ref sig .tc := ⟨.hbm, 559, rfl⟩
abbrev main_v372 : Ref sig .tc := ⟨.hbm, 560, rfl⟩
abbrev main_v373 : Ref sig .tc := ⟨.hbm, 561, rfl⟩
abbrev main_c_114 : Ref sig .tc := ⟨.hbm, 562, rfl⟩
abbrev main_v374 : Ref sig .tc := ⟨.hbm, 563, rfl⟩
abbrev main_v375 : Ref sig .tc := ⟨.hbm, 564, rfl⟩
abbrev main_v376 : Ref sig .tc := ⟨.hbm, 565, rfl⟩
abbrev main_c_115 : Ref sig .tc := ⟨.hbm, 566, rfl⟩
abbrev main_v377 : Ref sig .tc := ⟨.hbm, 567, rfl⟩
abbrev main_v378 : Ref sig .tc := ⟨.hbm, 568, rfl⟩
abbrev main_c_116 : Ref sig .tc := ⟨.hbm, 569, rfl⟩
abbrev main_v379 : Ref sig .tc := ⟨.hbm, 570, rfl⟩
abbrev main_v380 : Ref sig .tc := ⟨.hbm, 571, rfl⟩
abbrev main_v381 : Ref sig .tc := ⟨.hbm, 572, rfl⟩
abbrev main_v382 : Ref sig .tc := ⟨.hbm, 573, rfl⟩
abbrev main_v383 : Ref sig .tc := ⟨.hbm, 574, rfl⟩
abbrev main_cst_117 : Ref sig .tc := ⟨.hbm, 575, rfl⟩
abbrev main_v384 : Ref sig .tc := ⟨.hbm, 576, rfl⟩
abbrev main_cst_118 : Ref sig .tc := ⟨.hbm, 577, rfl⟩
abbrev main_v385 : Ref sig .tc := ⟨.hbm, 578, rfl⟩
abbrev main_v386 : Ref sig .tc := ⟨.hbm, 579, rfl⟩
abbrev main_cst_119 : Ref sig .tc := ⟨.hbm, 580, rfl⟩
abbrev main_v387 : Ref sig .tc := ⟨.hbm, 581, rfl⟩
abbrev main_v388 : Ref sig .tc := ⟨.hbm, 582, rfl⟩
abbrev main_cst_120 : Ref sig .tc := ⟨.hbm, 583, rfl⟩
abbrev main_v389 : Ref sig .tc := ⟨.hbm, 584, rfl⟩
abbrev main_v390 : Ref sig .tc := ⟨.hbm, 585, rfl⟩
abbrev main_v391 : Ref sig .tc := ⟨.hbm, 586, rfl⟩
abbrev main_v392 : Ref sig .tc := ⟨.hbm, 587, rfl⟩
abbrev main_v393 : Ref sig .tc := ⟨.hbm, 588, rfl⟩
abbrev main_c_121 : Ref sig .tc := ⟨.hbm, 589, rfl⟩
abbrev main_v394 : Ref sig .tc := ⟨.hbm, 590, rfl⟩
abbrev main_v395 : Ref sig .tc := ⟨.hbm, 591, rfl⟩
abbrev main_c_122 : Ref sig .tc := ⟨.hbm, 592, rfl⟩
abbrev main_v396 : Ref sig .tc := ⟨.hbm, 593, rfl⟩
abbrev main_v397 : Ref sig .tc := ⟨.hbm, 594, rfl⟩
abbrev main_v398 : Ref sig .tc := ⟨.hbm, 595, rfl⟩
abbrev main_c_123 : Ref sig .tc := ⟨.hbm, 596, rfl⟩
abbrev main_v399 : Ref sig .tc := ⟨.hbm, 597, rfl⟩
abbrev main_v400 : Ref sig .tc := ⟨.hbm, 598, rfl⟩
abbrev main_c_124 : Ref sig .tc := ⟨.hbm, 599, rfl⟩
abbrev main_v401 : Ref sig .tc := ⟨.hbm, 600, rfl⟩
abbrev main_v402 : Ref sig .tc := ⟨.hbm, 601, rfl⟩
abbrev main_v403 : Ref sig .tc := ⟨.hbm, 602, rfl⟩
abbrev main_c_125 : Ref sig .tc := ⟨.hbm, 603, rfl⟩
abbrev main_v404 : Ref sig .tc := ⟨.hbm, 604, rfl⟩
abbrev main_v405 : Ref sig .tc := ⟨.hbm, 605, rfl⟩
abbrev main_c_126 : Ref sig .tc := ⟨.hbm, 606, rfl⟩
abbrev main_v406 : Ref sig .tc := ⟨.hbm, 607, rfl⟩
abbrev main_v407 : Ref sig .tc := ⟨.hbm, 608, rfl⟩
abbrev main_v408 : Ref sig .tc := ⟨.hbm, 609, rfl⟩
abbrev main_c_127 : Ref sig .tc := ⟨.hbm, 610, rfl⟩
abbrev main_v409 : Ref sig .tc := ⟨.hbm, 611, rfl⟩
abbrev main_v410 : Ref sig .tc := ⟨.hbm, 612, rfl⟩
abbrev main_c_128 : Ref sig .tc := ⟨.hbm, 613, rfl⟩
abbrev main_v411 : Ref sig .tc := ⟨.hbm, 614, rfl⟩
abbrev main_v412 : Ref sig .tc := ⟨.hbm, 615, rfl⟩
abbrev main_v413 : Ref sig .tc := ⟨.hbm, 616, rfl⟩
abbrev main_v414 : Ref sig .tc := ⟨.hbm, 617, rfl⟩
abbrev main_v415 : Ref sig .tc := ⟨.hbm, 618, rfl⟩
abbrev main_v416 : Ref sig .tc := ⟨.hbm, 619, rfl⟩
abbrev main_v417 : Ref sig .tc := ⟨.hbm, 620, rfl⟩
abbrev main_v418 : Ref sig .tc := ⟨.hbm, 621, rfl⟩
abbrev main_v419 : Ref sig .tc := ⟨.hbm, 622, rfl⟩
abbrev main_v420 : Ref sig .tc := ⟨.hbm, 623, rfl⟩
abbrev main_v421 : Ref sig .tc := ⟨.hbm, 624, rfl⟩
abbrev main_v422 : Ref sig .tc := ⟨.hbm, 625, rfl⟩
abbrev main_v423 : Ref sig .tc := ⟨.hbm, 626, rfl⟩
abbrev main_v424 : Ref sig .tc := ⟨.hbm, 627, rfl⟩
abbrev main_v425 : Ref sig .tc := ⟨.hbm, 628, rfl⟩
abbrev main_v426 : Ref sig .tc := ⟨.hbm, 629, rfl⟩
abbrev main_c_129 : Ref sig .tc := ⟨.hbm, 630, rfl⟩
abbrev main_v427 : Ref sig .tc := ⟨.hbm, 631, rfl⟩
abbrev main_v428 : Ref sig .tc := ⟨.hbm, 632, rfl⟩
abbrev main_c_130 : Ref sig .tc := ⟨.hbm, 633, rfl⟩
abbrev main_v429 : Ref sig .tc := ⟨.hbm, 634, rfl⟩
abbrev main_v430 : Ref sig .tc := ⟨.hbm, 635, rfl⟩
abbrev main_v431 : Ref sig .tc := ⟨.hbm, 636, rfl⟩
abbrev main_c_131 : Ref sig .tc := ⟨.hbm, 637, rfl⟩
abbrev main_v432 : Ref sig .tc := ⟨.hbm, 638, rfl⟩
abbrev main_v433 : Ref sig .tc := ⟨.hbm, 639, rfl⟩
abbrev main_c_132 : Ref sig .tc := ⟨.hbm, 640, rfl⟩
abbrev main_v434 : Ref sig .tc := ⟨.hbm, 641, rfl⟩
abbrev main_v435 : Ref sig .tc := ⟨.hbm, 642, rfl⟩
abbrev main_v436 : Ref sig .tc := ⟨.hbm, 643, rfl⟩
abbrev main_c_133 : Ref sig .tc := ⟨.hbm, 644, rfl⟩
abbrev main_v437 : Ref sig .tc := ⟨.hbm, 645, rfl⟩
abbrev main_v438 : Ref sig .tc := ⟨.hbm, 646, rfl⟩
abbrev main_c_134 : Ref sig .tc := ⟨.hbm, 647, rfl⟩
abbrev main_v439 : Ref sig .tc := ⟨.hbm, 648, rfl⟩
abbrev main_v440 : Ref sig .tc := ⟨.hbm, 649, rfl⟩
abbrev main_v441 : Ref sig .tc := ⟨.hbm, 650, rfl⟩
abbrev main_c_135 : Ref sig .tc := ⟨.hbm, 651, rfl⟩
abbrev main_v442 : Ref sig .tc := ⟨.hbm, 652, rfl⟩
abbrev main_v443 : Ref sig .tc := ⟨.hbm, 653, rfl⟩
abbrev main_c_136 : Ref sig .tc := ⟨.hbm, 654, rfl⟩
abbrev main_v444 : Ref sig .tc := ⟨.hbm, 655, rfl⟩
abbrev main_v445 : Ref sig .tc := ⟨.hbm, 656, rfl⟩
abbrev main_v446 : Ref sig .tc := ⟨.hbm, 657, rfl⟩
abbrev main_v447 : Ref sig .tc := ⟨.hbm, 658, rfl⟩
abbrev main_v448 : Ref sig .tc := ⟨.hbm, 659, rfl⟩
abbrev main_v449 : Ref sig .tc := ⟨.hbm, 660, rfl⟩
abbrev main_v450 : Ref sig .tc := ⟨.hbm, 661, rfl⟩
abbrev main_v451 : Ref sig .tc := ⟨.hbm, 662, rfl⟩
abbrev main_v452 : Ref sig .tc := ⟨.hbm, 663, rfl⟩
abbrev main_v453 : Ref sig .tc := ⟨.hbm, 664, rfl⟩
abbrev main_v454 : Ref sig .tc := ⟨.hbm, 665, rfl⟩
abbrev main_v455 : Ref sig .tc := ⟨.hbm, 666, rfl⟩
abbrev main_v456 : Ref sig .tc := ⟨.hbm, 667, rfl⟩
abbrev main_cst_137 : Ref sig .tc := ⟨.hbm, 668, rfl⟩
abbrev main_v457 : Ref sig .tc := ⟨.hbm, 669, rfl⟩
abbrev main_v458 : Ref sig .tc := ⟨.hbm, 670, rfl⟩
abbrev main_v459 : Ref sig .tc := ⟨.hbm, 671, rfl⟩
abbrev main_v460 : Ref sig .tc := ⟨.hbm, 672, rfl⟩
abbrev main_v461 : Ref sig .tc := ⟨.hbm, 673, rfl⟩
abbrev main_c_138 : Ref sig .tc := ⟨.hbm, 674, rfl⟩
abbrev main_v462 : Ref sig .tc := ⟨.hbm, 675, rfl⟩
abbrev main_v463 : Ref sig .tc := ⟨.hbm, 676, rfl⟩
abbrev main_c_139 : Ref sig .tc := ⟨.hbm, 677, rfl⟩
abbrev main_v464 : Ref sig .tc := ⟨.hbm, 678, rfl⟩
abbrev main_v465 : Ref sig .tc := ⟨.hbm, 679, rfl⟩
abbrev main_v466 : Ref sig .tc := ⟨.hbm, 680, rfl⟩
abbrev main_c_140 : Ref sig .tc := ⟨.hbm, 681, rfl⟩
abbrev main_v467 : Ref sig .tc := ⟨.hbm, 682, rfl⟩
abbrev main_v468 : Ref sig .tc := ⟨.hbm, 683, rfl⟩
abbrev main_c_141 : Ref sig .tc := ⟨.hbm, 684, rfl⟩
abbrev main_v469 : Ref sig .tc := ⟨.hbm, 685, rfl⟩
abbrev main_v470 : Ref sig .tc := ⟨.hbm, 686, rfl⟩
abbrev main_v471 : Ref sig .tc := ⟨.hbm, 687, rfl⟩
abbrev main_c_142 : Ref sig .tc := ⟨.hbm, 688, rfl⟩
abbrev main_v472 : Ref sig .tc := ⟨.hbm, 689, rfl⟩
abbrev main_v473 : Ref sig .tc := ⟨.hbm, 690, rfl⟩
abbrev main_c_143 : Ref sig .tc := ⟨.hbm, 691, rfl⟩
abbrev main_v474 : Ref sig .tc := ⟨.hbm, 692, rfl⟩
abbrev main_v475 : Ref sig .tc := ⟨.hbm, 693, rfl⟩
abbrev main_v476 : Ref sig .tc := ⟨.hbm, 694, rfl⟩
abbrev main_c_144 : Ref sig .tc := ⟨.hbm, 695, rfl⟩
abbrev main_v477 : Ref sig .tc := ⟨.hbm, 696, rfl⟩
abbrev main_v478 : Ref sig .tc := ⟨.hbm, 697, rfl⟩
abbrev main_c_145 : Ref sig .tc := ⟨.hbm, 698, rfl⟩
abbrev main_v479 : Ref sig .tc := ⟨.hbm, 699, rfl⟩
abbrev main_v480 : Ref sig .tc := ⟨.hbm, 700, rfl⟩
abbrev main_v481 : Ref sig .tc := ⟨.hbm, 701, rfl⟩
abbrev main_v482 : Ref sig .tc := ⟨.hbm, 702, rfl⟩
abbrev main_v483 : Ref sig .tc := ⟨.hbm, 703, rfl⟩
abbrev main_v484 : Ref sig .tc := ⟨.hbm, 704, rfl⟩
abbrev main_v485 : Ref sig .tc := ⟨.hbm, 705, rfl⟩
abbrev main_v486 : Ref sig .tc := ⟨.hbm, 706, rfl⟩
abbrev main_v487 : Ref sig .tc := ⟨.hbm, 707, rfl⟩
abbrev main_v488 : Ref sig .tc := ⟨.hbm, 708, rfl⟩
abbrev main_v489 : Ref sig .tc := ⟨.hbm, 709, rfl⟩
abbrev main_v490 : Ref sig .tc := ⟨.hbm, 710, rfl⟩
abbrev main_v491 : Ref sig .tc := ⟨.hbm, 711, rfl⟩
abbrev main_v492 : Ref sig .tc := ⟨.hbm, 712, rfl⟩
abbrev main_v493 : Ref sig .tc := ⟨.hbm, 713, rfl⟩
abbrev main_v494 : Ref sig .tc := ⟨.hbm, 714, rfl⟩
abbrev main_c_146 : Ref sig .tc := ⟨.hbm, 715, rfl⟩
abbrev main_v495 : Ref sig .tc := ⟨.hbm, 716, rfl⟩
abbrev main_v496 : Ref sig .tc := ⟨.hbm, 717, rfl⟩
abbrev main_c_147 : Ref sig .tc := ⟨.hbm, 718, rfl⟩
abbrev main_v497 : Ref sig .tc := ⟨.hbm, 719, rfl⟩
abbrev main_v498 : Ref sig .tc := ⟨.hbm, 720, rfl⟩
abbrev main_v499 : Ref sig .tc := ⟨.hbm, 721, rfl⟩
abbrev main_c_148 : Ref sig .tc := ⟨.hbm, 722, rfl⟩
abbrev main_v500 : Ref sig .tc := ⟨.hbm, 723, rfl⟩
abbrev main_v501 : Ref sig .tc := ⟨.hbm, 724, rfl⟩
abbrev main_c_149 : Ref sig .tc := ⟨.hbm, 725, rfl⟩
abbrev main_v502 : Ref sig .tc := ⟨.hbm, 726, rfl⟩
abbrev main_v503 : Ref sig .tc := ⟨.hbm, 727, rfl⟩
abbrev main_v504 : Ref sig .tc := ⟨.hbm, 728, rfl⟩
abbrev main_c_150 : Ref sig .tc := ⟨.hbm, 729, rfl⟩
abbrev main_v505 : Ref sig .tc := ⟨.hbm, 730, rfl⟩
abbrev main_v506 : Ref sig .tc := ⟨.hbm, 731, rfl⟩
abbrev main_c_151 : Ref sig .tc := ⟨.hbm, 732, rfl⟩
abbrev main_v507 : Ref sig .tc := ⟨.hbm, 733, rfl⟩
abbrev main_v508 : Ref sig .tc := ⟨.hbm, 734, rfl⟩
abbrev main_v509 : Ref sig .tc := ⟨.hbm, 735, rfl⟩
abbrev main_c_152 : Ref sig .tc := ⟨.hbm, 736, rfl⟩
abbrev main_v510 : Ref sig .tc := ⟨.hbm, 737, rfl⟩
abbrev main_v511 : Ref sig .tc := ⟨.hbm, 738, rfl⟩
abbrev main_c_153 : Ref sig .tc := ⟨.hbm, 739, rfl⟩
abbrev main_v512 : Ref sig .tc := ⟨.hbm, 740, rfl⟩
abbrev main_v513 : Ref sig .tc := ⟨.hbm, 741, rfl⟩
abbrev main_v514 : Ref sig .tc := ⟨.hbm, 742, rfl⟩
abbrev main_v515 : Ref sig .tc := ⟨.hbm, 743, rfl⟩
abbrev main_v516 : Ref sig .tc := ⟨.hbm, 744, rfl⟩
abbrev main_v517 : Ref sig .tc := ⟨.hbm, 745, rfl⟩
abbrev main_v518 : Ref sig .tc := ⟨.hbm, 746, rfl⟩
abbrev main_v519 : Ref sig .tc := ⟨.hbm, 747, rfl⟩
abbrev main_v520 : Ref sig .tc := ⟨.hbm, 748, rfl⟩
abbrev main_v521 : Ref sig .tc := ⟨.hbm, 749, rfl⟩
abbrev main_v522 : Ref sig .tc := ⟨.hbm, 750, rfl⟩
abbrev main_v523 : Ref sig .tc := ⟨.hbm, 751, rfl⟩
abbrev main_v524 : Ref sig .tc := ⟨.hbm, 752, rfl⟩
abbrev main_cst_154 : Ref sig .tc := ⟨.hbm, 753, rfl⟩
abbrev main_v525 : Ref sig .tc := ⟨.hbm, 754, rfl⟩
abbrev main_v526 : Ref sig .tc := ⟨.hbm, 755, rfl⟩
abbrev main_cst_155 : Ref sig .tc := ⟨.hbm, 756, rfl⟩
abbrev main_v527 : Ref sig .tc := ⟨.hbm, 757, rfl⟩
abbrev main_v528 : Ref sig .tc := ⟨.hbm, 758, rfl⟩
abbrev main_v529 : Ref sig .tc := ⟨.hbm, 759, rfl⟩
abbrev main_v530 : Ref sig .tc := ⟨.hbm, 760, rfl⟩
abbrev main_v531 : Ref sig .tc := ⟨.hbm, 761, rfl⟩
abbrev main_c_156 : Ref sig .tc := ⟨.hbm, 762, rfl⟩
abbrev main_v532 : Ref sig .tc := ⟨.hbm, 763, rfl⟩
abbrev main_v533 : Ref sig .tc := ⟨.hbm, 764, rfl⟩
abbrev main_c_157 : Ref sig .tc := ⟨.hbm, 765, rfl⟩
abbrev main_v534 : Ref sig .tc := ⟨.hbm, 766, rfl⟩
abbrev main_v535 : Ref sig .tc := ⟨.hbm, 767, rfl⟩
abbrev main_v536 : Ref sig .tc := ⟨.hbm, 768, rfl⟩
abbrev main_c_158 : Ref sig .tc := ⟨.hbm, 769, rfl⟩
abbrev main_v537 : Ref sig .tc := ⟨.hbm, 770, rfl⟩
abbrev main_v538 : Ref sig .tc := ⟨.hbm, 771, rfl⟩
abbrev main_c_159 : Ref sig .tc := ⟨.hbm, 772, rfl⟩
abbrev main_v539 : Ref sig .tc := ⟨.hbm, 773, rfl⟩
abbrev main_v540 : Ref sig .tc := ⟨.hbm, 774, rfl⟩
abbrev main_v541 : Ref sig .tc := ⟨.hbm, 775, rfl⟩
abbrev main_c_160 : Ref sig .tc := ⟨.hbm, 776, rfl⟩
abbrev main_v542 : Ref sig .tc := ⟨.hbm, 777, rfl⟩
abbrev main_v543 : Ref sig .tc := ⟨.hbm, 778, rfl⟩
abbrev main_c_161 : Ref sig .tc := ⟨.hbm, 779, rfl⟩
abbrev main_v544 : Ref sig .tc := ⟨.hbm, 780, rfl⟩
abbrev main_v545 : Ref sig .tc := ⟨.hbm, 781, rfl⟩
abbrev main_v546 : Ref sig .tc := ⟨.hbm, 782, rfl⟩
abbrev main_c_162 : Ref sig .tc := ⟨.hbm, 783, rfl⟩
abbrev main_v547 : Ref sig .tc := ⟨.hbm, 784, rfl⟩
abbrev main_v548 : Ref sig .tc := ⟨.hbm, 785, rfl⟩
abbrev main_c_163 : Ref sig .tc := ⟨.hbm, 786, rfl⟩
abbrev main_v549 : Ref sig .tc := ⟨.hbm, 787, rfl⟩
abbrev main_v550 : Ref sig .tc := ⟨.hbm, 788, rfl⟩
abbrev main_v551 : Ref sig .tc := ⟨.hbm, 789, rfl⟩
abbrev main_v552 : Ref sig .tc := ⟨.hbm, 790, rfl⟩
abbrev main_v553 : Ref sig .tc := ⟨.hbm, 791, rfl⟩
abbrev main_v554 : Ref sig .tc := ⟨.hbm, 792, rfl⟩
abbrev main_v555 : Ref sig .tc := ⟨.hbm, 793, rfl⟩
abbrev main_v556 : Ref sig .tc := ⟨.hbm, 794, rfl⟩
abbrev main_v557 : Ref sig .tc := ⟨.hbm, 795, rfl⟩
abbrev main_v558 : Ref sig .tc := ⟨.hbm, 796, rfl⟩
abbrev main_v559 : Ref sig .tc := ⟨.hbm, 797, rfl⟩
abbrev main_v560 : Ref sig .tc := ⟨.hbm, 798, rfl⟩
abbrev main_v561 : Ref sig .tc := ⟨.hbm, 799, rfl⟩
abbrev main_v562 : Ref sig .tc := ⟨.hbm, 800, rfl⟩
abbrev main_v563 : Ref sig .tc := ⟨.hbm, 801, rfl⟩
abbrev main_v564 : Ref sig .tc := ⟨.hbm, 802, rfl⟩
abbrev main_c_164 : Ref sig .tc := ⟨.hbm, 803, rfl⟩
abbrev main_v565 : Ref sig .tc := ⟨.hbm, 804, rfl⟩
abbrev main_v566 : Ref sig .tc := ⟨.hbm, 805, rfl⟩
abbrev main_c_165 : Ref sig .tc := ⟨.hbm, 806, rfl⟩
abbrev main_v567 : Ref sig .tc := ⟨.hbm, 807, rfl⟩
abbrev main_v568 : Ref sig .tc := ⟨.hbm, 808, rfl⟩
abbrev main_v569 : Ref sig .tc := ⟨.hbm, 809, rfl⟩
abbrev main_c_166 : Ref sig .tc := ⟨.hbm, 810, rfl⟩
abbrev main_v570 : Ref sig .tc := ⟨.hbm, 811, rfl⟩
abbrev main_v571 : Ref sig .tc := ⟨.hbm, 812, rfl⟩
abbrev main_c_167 : Ref sig .tc := ⟨.hbm, 813, rfl⟩
abbrev main_v572 : Ref sig .tc := ⟨.hbm, 814, rfl⟩
abbrev main_v573 : Ref sig .tc := ⟨.hbm, 815, rfl⟩
abbrev main_v574 : Ref sig .tc := ⟨.hbm, 816, rfl⟩
abbrev main_c_168 : Ref sig .tc := ⟨.hbm, 817, rfl⟩
abbrev main_v575 : Ref sig .tc := ⟨.hbm, 818, rfl⟩
abbrev main_v576 : Ref sig .tc := ⟨.hbm, 819, rfl⟩
abbrev main_c_169 : Ref sig .tc := ⟨.hbm, 820, rfl⟩
abbrev main_v577 : Ref sig .tc := ⟨.hbm, 821, rfl⟩
abbrev main_v578 : Ref sig .tc := ⟨.hbm, 822, rfl⟩
abbrev main_v579 : Ref sig .tc := ⟨.hbm, 823, rfl⟩
abbrev main_c_170 : Ref sig .tc := ⟨.hbm, 824, rfl⟩
abbrev main_v580 : Ref sig .tc := ⟨.hbm, 825, rfl⟩
abbrev main_v581 : Ref sig .tc := ⟨.hbm, 826, rfl⟩
abbrev main_c_171 : Ref sig .tc := ⟨.hbm, 827, rfl⟩
abbrev main_v582 : Ref sig .tc := ⟨.hbm, 828, rfl⟩
abbrev main_v583 : Ref sig .tc := ⟨.hbm, 829, rfl⟩
abbrev main_v584 : Ref sig .tc := ⟨.hbm, 830, rfl⟩
abbrev main_v585 : Ref sig .tc := ⟨.hbm, 831, rfl⟩
abbrev main_v586 : Ref sig .tc := ⟨.hbm, 832, rfl⟩
abbrev main_v587 : Ref sig .tc := ⟨.hbm, 833, rfl⟩
abbrev main_v588 : Ref sig .tc := ⟨.hbm, 834, rfl⟩
abbrev main_v589 : Ref sig .tc := ⟨.hbm, 835, rfl⟩
abbrev main_v590 : Ref sig .tc := ⟨.hbm, 836, rfl⟩
abbrev main_v591 : Ref sig .tc := ⟨.hbm, 837, rfl⟩
abbrev main_v592 : Ref sig .tc := ⟨.hbm, 838, rfl⟩
abbrev main_v593 : Ref sig .tc := ⟨.hbm, 839, rfl⟩
abbrev main_v594 : Ref sig .tc := ⟨.hbm, 840, rfl⟩
abbrev main_cst_172 : Ref sig .tc := ⟨.hbm, 841, rfl⟩
abbrev main_v595 : Ref sig .tc := ⟨.hbm, 842, rfl⟩
abbrev main_v596 : Ref sig .tc := ⟨.hbm, 843, rfl⟩
abbrev main_v597 : Ref sig .tc := ⟨.hbm, 844, rfl⟩
abbrev main_v598 : Ref sig .tc := ⟨.hbm, 845, rfl⟩
abbrev main_v599 : Ref sig .tc := ⟨.hbm, 846, rfl⟩
abbrev main_c_173 : Ref sig .tc := ⟨.hbm, 847, rfl⟩
abbrev main_v600 : Ref sig .tc := ⟨.hbm, 848, rfl⟩
abbrev main_v601 : Ref sig .tc := ⟨.hbm, 849, rfl⟩
abbrev main_c_174 : Ref sig .tc := ⟨.hbm, 850, rfl⟩
abbrev main_v602 : Ref sig .tc := ⟨.hbm, 851, rfl⟩
abbrev main_v603 : Ref sig .tc := ⟨.hbm, 852, rfl⟩
abbrev main_v604 : Ref sig .tc := ⟨.hbm, 853, rfl⟩
abbrev main_c_175 : Ref sig .tc := ⟨.hbm, 854, rfl⟩
abbrev main_v605 : Ref sig .tc := ⟨.hbm, 855, rfl⟩
abbrev main_v606 : Ref sig .tc := ⟨.hbm, 856, rfl⟩
abbrev main_c_176 : Ref sig .tc := ⟨.hbm, 857, rfl⟩
abbrev main_v607 : Ref sig .tc := ⟨.hbm, 858, rfl⟩
abbrev main_v608 : Ref sig .tc := ⟨.hbm, 859, rfl⟩
abbrev main_v609 : Ref sig .tc := ⟨.hbm, 860, rfl⟩
abbrev main_c_177 : Ref sig .tc := ⟨.hbm, 861, rfl⟩
abbrev main_v610 : Ref sig .tc := ⟨.hbm, 862, rfl⟩
abbrev main_v611 : Ref sig .tc := ⟨.hbm, 863, rfl⟩
abbrev main_c_178 : Ref sig .tc := ⟨.hbm, 864, rfl⟩
abbrev main_v612 : Ref sig .tc := ⟨.hbm, 865, rfl⟩
abbrev main_v613 : Ref sig .tc := ⟨.hbm, 866, rfl⟩
abbrev main_v614 : Ref sig .tc := ⟨.hbm, 867, rfl⟩
abbrev main_c_179 : Ref sig .tc := ⟨.hbm, 868, rfl⟩
abbrev main_v615 : Ref sig .tc := ⟨.hbm, 869, rfl⟩
abbrev main_v616 : Ref sig .tc := ⟨.hbm, 870, rfl⟩
abbrev main_c_180 : Ref sig .tc := ⟨.hbm, 871, rfl⟩
abbrev main_v617 : Ref sig .tc := ⟨.hbm, 872, rfl⟩
abbrev main_v618 : Ref sig .tc := ⟨.hbm, 873, rfl⟩
abbrev main_v619 : Ref sig .tc := ⟨.hbm, 874, rfl⟩
abbrev main_v620 : Ref sig .tc := ⟨.hbm, 875, rfl⟩
abbrev main_v621 : Ref sig .tc := ⟨.hbm, 876, rfl⟩
abbrev main_v622 : Ref sig .tc := ⟨.hbm, 877, rfl⟩
abbrev main_v623 : Ref sig .tc := ⟨.hbm, 878, rfl⟩
abbrev main_v624 : Ref sig .tc := ⟨.hbm, 879, rfl⟩
abbrev main_v625 : Ref sig .tc := ⟨.hbm, 880, rfl⟩
abbrev main_v626 : Ref sig .tc := ⟨.hbm, 881, rfl⟩
abbrev main_v627 : Ref sig .tc := ⟨.hbm, 882, rfl⟩
abbrev main_v628 : Ref sig .tc := ⟨.hbm, 883, rfl⟩
abbrev main_v629 : Ref sig .tc := ⟨.hbm, 884, rfl⟩
abbrev main_v630 : Ref sig .tc := ⟨.hbm, 885, rfl⟩
abbrev main_v631 : Ref sig .tc := ⟨.hbm, 886, rfl⟩
abbrev main_v632 : Ref sig .tc := ⟨.hbm, 887, rfl⟩
abbrev main_c_181 : Ref sig .tc := ⟨.hbm, 888, rfl⟩
abbrev main_v633 : Ref sig .tc := ⟨.hbm, 889, rfl⟩
abbrev main_v634 : Ref sig .tc := ⟨.hbm, 890, rfl⟩
abbrev main_c_182 : Ref sig .tc := ⟨.hbm, 891, rfl⟩
abbrev main_v635 : Ref sig .tc := ⟨.hbm, 892, rfl⟩
abbrev main_v636 : Ref sig .tc := ⟨.hbm, 893, rfl⟩
abbrev main_v637 : Ref sig .tc := ⟨.hbm, 894, rfl⟩
abbrev main_c_183 : Ref sig .tc := ⟨.hbm, 895, rfl⟩
abbrev main_v638 : Ref sig .tc := ⟨.hbm, 896, rfl⟩
abbrev main_v639 : Ref sig .tc := ⟨.hbm, 897, rfl⟩
abbrev main_c_184 : Ref sig .tc := ⟨.hbm, 898, rfl⟩
abbrev main_v640 : Ref sig .tc := ⟨.hbm, 899, rfl⟩
abbrev main_v641 : Ref sig .tc := ⟨.hbm, 900, rfl⟩
abbrev main_v642 : Ref sig .tc := ⟨.hbm, 901, rfl⟩
abbrev main_c_185 : Ref sig .tc := ⟨.hbm, 902, rfl⟩
abbrev main_v643 : Ref sig .tc := ⟨.hbm, 903, rfl⟩
abbrev main_v644 : Ref sig .tc := ⟨.hbm, 904, rfl⟩
abbrev main_c_186 : Ref sig .tc := ⟨.hbm, 905, rfl⟩
abbrev main_v645 : Ref sig .tc := ⟨.hbm, 906, rfl⟩
abbrev main_v646 : Ref sig .tc := ⟨.hbm, 907, rfl⟩
abbrev main_v647 : Ref sig .tc := ⟨.hbm, 908, rfl⟩
abbrev main_c_187 : Ref sig .tc := ⟨.hbm, 909, rfl⟩
abbrev main_v648 : Ref sig .tc := ⟨.hbm, 910, rfl⟩
abbrev main_v649 : Ref sig .tc := ⟨.hbm, 911, rfl⟩
abbrev main_c_188 : Ref sig .tc := ⟨.hbm, 912, rfl⟩
abbrev main_v650 : Ref sig .tc := ⟨.hbm, 913, rfl⟩
abbrev main_v651 : Ref sig .tc := ⟨.hbm, 914, rfl⟩
abbrev main_v652 : Ref sig .tc := ⟨.hbm, 915, rfl⟩
abbrev main_v653 : Ref sig .tc := ⟨.hbm, 916, rfl⟩
abbrev main_v654 : Ref sig .tc := ⟨.hbm, 917, rfl⟩
abbrev main_v655 : Ref sig .tc := ⟨.hbm, 918, rfl⟩
abbrev main_v656 : Ref sig .tc := ⟨.hbm, 919, rfl⟩
abbrev main_v657 : Ref sig .tc := ⟨.hbm, 920, rfl⟩
abbrev main_v658 : Ref sig .tc := ⟨.hbm, 921, rfl⟩
abbrev main_v659 : Ref sig .tc := ⟨.hbm, 922, rfl⟩
abbrev main_v660 : Ref sig .tc := ⟨.hbm, 923, rfl⟩
abbrev main_v661 : Ref sig .tc := ⟨.hbm, 924, rfl⟩
abbrev main_v662 : Ref sig .tc := ⟨.hbm, 925, rfl⟩
abbrev main_v663 : Ref sig .tc := ⟨.hbm, 926, rfl⟩
abbrev main_v664 : Ref sig .tc := ⟨.hbm, 927, rfl⟩
abbrev main_v665 : Ref sig .tc := ⟨.hbm, 928, rfl⟩
abbrev main_v666 : Ref sig .tc := ⟨.hbm, 929, rfl⟩
abbrev main_cst_189 : Ref sig .tc := ⟨.hbm, 930, rfl⟩
abbrev main_v667 : Ref sig .tc := ⟨.hbm, 931, rfl⟩
abbrev main_v668 : Ref sig .tc := ⟨.hbm, 932, rfl⟩
abbrev main_cst_190 : Ref sig .tc := ⟨.hbm, 933, rfl⟩
abbrev main_v669 : Ref sig .tc := ⟨.hbm, 934, rfl⟩
abbrev main_v670 : Ref sig .tc := ⟨.hbm, 935, rfl⟩
abbrev main_cst_191 : Ref sig .tc := ⟨.hbm, 936, rfl⟩
abbrev main_v671 : Ref sig .tc := ⟨.hbm, 937, rfl⟩
abbrev main_v672 : Ref sig .tc := ⟨.hbm, 938, rfl⟩
abbrev main_cst_192 : Ref sig .tc := ⟨.hbm, 939, rfl⟩
abbrev main_c_193 : Ref sig .tc := ⟨.hbm, 940, rfl⟩
abbrev main_call8_v0 : Ref sig .tc := ⟨.hbm, 941, rfl⟩
abbrev main_call8_v1 : Ref sig .tc := ⟨.hbm, 942, rfl⟩
abbrev main_call8_v2 : Ref sig .tc := ⟨.hbm, 943, rfl⟩
abbrev main_call8_v3 : Ref sig .tc := ⟨.hbm, 944, rfl⟩
abbrev main_call8_v4 : Ref sig .tc := ⟨.hbm, 945, rfl⟩
abbrev main_v673 : Ref sig .tc := ⟨.hbm, 946, rfl⟩
abbrev main_cst_194 : Ref sig .tc := ⟨.hbm, 947, rfl⟩
abbrev main_v674 : Ref sig .tc := ⟨.hbm, 948, rfl⟩
abbrev main_v675 : Ref sig .tc := ⟨.hbm, 949, rfl⟩
abbrev main_cst_195 : Ref sig .tc := ⟨.hbm, 950, rfl⟩
abbrev main_v676 : Ref sig .tc := ⟨.hbm, 951, rfl⟩
abbrev main_v677 : Ref sig .tc := ⟨.hbm, 952, rfl⟩
abbrev main_cst_196 : Ref sig .tc := ⟨.hbm, 953, rfl⟩
abbrev main_v678 : Ref sig .tc := ⟨.hbm, 954, rfl⟩
abbrev main_v679 : Ref sig .tc := ⟨.hbm, 955, rfl⟩
abbrev main_cst_197 : Ref sig .tc := ⟨.hbm, 956, rfl⟩
abbrev main_c_198 : Ref sig .tc := ⟨.hbm, 957, rfl⟩
abbrev main_call9_v0 : Ref sig .tc := ⟨.hbm, 958, rfl⟩
abbrev main_call9_v1 : Ref sig .tc := ⟨.hbm, 959, rfl⟩
abbrev main_call9_v2 : Ref sig .tc := ⟨.hbm, 960, rfl⟩
abbrev main_call9_v3 : Ref sig .tc := ⟨.hbm, 961, rfl⟩
abbrev main_call9_v4 : Ref sig .tc := ⟨.hbm, 962, rfl⟩
abbrev main_v680 : Ref sig .tc := ⟨.hbm, 963, rfl⟩
abbrev main_cst_199 : Ref sig .tc := ⟨.hbm, 964, rfl⟩
abbrev main_v681 : Ref sig .tc := ⟨.hbm, 965, rfl⟩
abbrev main_v682 : Ref sig .tc := ⟨.hbm, 966, rfl⟩
abbrev main_cst_200 : Ref sig .tc := ⟨.hbm, 967, rfl⟩
abbrev main_v683 : Ref sig .tc := ⟨.hbm, 968, rfl⟩
abbrev main_v684 : Ref sig .tc := ⟨.hbm, 969, rfl⟩
abbrev main_cst_201 : Ref sig .tc := ⟨.hbm, 970, rfl⟩
abbrev main_v685 : Ref sig .tc := ⟨.hbm, 971, rfl⟩
abbrev main_v686 : Ref sig .tc := ⟨.hbm, 972, rfl⟩
abbrev main_cst_202 : Ref sig .tc := ⟨.hbm, 973, rfl⟩
abbrev main_c_203 : Ref sig .tc := ⟨.hbm, 974, rfl⟩
abbrev main_call10_v0 : Ref sig .tc := ⟨.hbm, 975, rfl⟩
abbrev main_call10_v1 : Ref sig .tc := ⟨.hbm, 976, rfl⟩
abbrev main_call10_v2 : Ref sig .tc := ⟨.hbm, 977, rfl⟩
abbrev main_call10_v3 : Ref sig .tc := ⟨.hbm, 978, rfl⟩
abbrev main_call10_v4 : Ref sig .tc := ⟨.hbm, 979, rfl⟩
abbrev main_v687 : Ref sig .tc := ⟨.hbm, 980, rfl⟩
abbrev main_v688 : Ref sig .tc := ⟨.hbm, 981, rfl⟩
abbrev main_v689 : Ref sig .tc := ⟨.hbm, 982, rfl⟩
abbrev main_v690 : Ref sig .tc := ⟨.hbm, 983, rfl⟩
abbrev main_v691 : Ref sig .tc := ⟨.hbm, 984, rfl⟩
abbrev main_v692 : Ref sig .tc := ⟨.hbm, 985, rfl⟩
abbrev main_v693 : Ref sig .tc := ⟨.hbm, 986, rfl⟩
abbrev main_v694 : Ref sig .tc := ⟨.hbm, 987, rfl⟩
abbrev main_c_204 : Ref sig .tc := ⟨.hbm, 988, rfl⟩
abbrev main_v695 : Ref sig .tc := ⟨.hbm, 989, rfl⟩
abbrev main_v696 : Ref sig .tc := ⟨.hbm, 990, rfl⟩
abbrev main_c_205 : Ref sig .tc := ⟨.hbm, 991, rfl⟩
abbrev main_v697 : Ref sig .tc := ⟨.hbm, 992, rfl⟩
abbrev main_v698 : Ref sig .tc := ⟨.hbm, 993, rfl⟩
abbrev main_v699 : Ref sig .tc := ⟨.hbm, 994, rfl⟩
abbrev main_c_206 : Ref sig .tc := ⟨.hbm, 995, rfl⟩
abbrev main_v700 : Ref sig .tc := ⟨.hbm, 996, rfl⟩
abbrev main_v701 : Ref sig .tc := ⟨.hbm, 997, rfl⟩
abbrev main_c_207 : Ref sig .tc := ⟨.hbm, 998, rfl⟩
abbrev main_v702 : Ref sig .tc := ⟨.hbm, 999, rfl⟩
abbrev main_v703 : Ref sig .tc := ⟨.hbm, 1000, rfl⟩
abbrev main_v704 : Ref sig .tc := ⟨.hbm, 1001, rfl⟩
abbrev main_c_208 : Ref sig .tc := ⟨.hbm, 1002, rfl⟩
abbrev main_v705 : Ref sig .tc := ⟨.hbm, 1003, rfl⟩
abbrev main_v706 : Ref sig .tc := ⟨.hbm, 1004, rfl⟩
abbrev main_c_209 : Ref sig .tc := ⟨.hbm, 1005, rfl⟩
abbrev main_v707 : Ref sig .tc := ⟨.hbm, 1006, rfl⟩
abbrev main_v708 : Ref sig .tc := ⟨.hbm, 1007, rfl⟩
abbrev main_v709 : Ref sig .tc := ⟨.hbm, 1008, rfl⟩
abbrev main_v710 : Ref sig .tc := ⟨.hbm, 1009, rfl⟩
abbrev main_v711 : Ref sig .tc := ⟨.hbm, 1010, rfl⟩
abbrev main_cst_210 : Ref sig .tc := ⟨.hbm, 1011, rfl⟩
abbrev main_v712 : Ref sig .tc := ⟨.hbm, 1012, rfl⟩
abbrev main_cst_211 : Ref sig .tc := ⟨.hbm, 1013, rfl⟩
abbrev main_v713 : Ref sig .tc := ⟨.hbm, 1014, rfl⟩
abbrev main_v714 : Ref sig .tc := ⟨.hbm, 1015, rfl⟩
abbrev main_cst_212 : Ref sig .tc := ⟨.hbm, 1016, rfl⟩
abbrev main_v715 : Ref sig .tc := ⟨.hbm, 1017, rfl⟩
abbrev main_v716 : Ref sig .tc := ⟨.hbm, 1018, rfl⟩
abbrev main_cst_213 : Ref sig .tc := ⟨.hbm, 1019, rfl⟩
abbrev main_v717 : Ref sig .tc := ⟨.hbm, 1020, rfl⟩
abbrev main_v718 : Ref sig .tc := ⟨.hbm, 1021, rfl⟩
abbrev main_v719 : Ref sig .tc := ⟨.hbm, 1022, rfl⟩
abbrev main_v720 : Ref sig .tc := ⟨.hbm, 1023, rfl⟩
abbrev main_v721 : Ref sig .tc := ⟨.hbm, 1024, rfl⟩
abbrev main_c_214 : Ref sig .tc := ⟨.hbm, 1025, rfl⟩
abbrev main_v722 : Ref sig .tc := ⟨.hbm, 1026, rfl⟩
abbrev main_v723 : Ref sig .tc := ⟨.hbm, 1027, rfl⟩
abbrev main_c_215 : Ref sig .tc := ⟨.hbm, 1028, rfl⟩
abbrev main_v724 : Ref sig .tc := ⟨.hbm, 1029, rfl⟩
abbrev main_v725 : Ref sig .tc := ⟨.hbm, 1030, rfl⟩
abbrev main_v726 : Ref sig .tc := ⟨.hbm, 1031, rfl⟩
abbrev main_c_216 : Ref sig .tc := ⟨.hbm, 1032, rfl⟩
abbrev main_v727 : Ref sig .tc := ⟨.hbm, 1033, rfl⟩
abbrev main_v728 : Ref sig .tc := ⟨.hbm, 1034, rfl⟩
abbrev main_c_217 : Ref sig .tc := ⟨.hbm, 1035, rfl⟩
abbrev main_v729 : Ref sig .tc := ⟨.hbm, 1036, rfl⟩
abbrev main_v730 : Ref sig .tc := ⟨.hbm, 1037, rfl⟩
abbrev main_v731 : Ref sig .tc := ⟨.hbm, 1038, rfl⟩
abbrev main_c_218 : Ref sig .tc := ⟨.hbm, 1039, rfl⟩
abbrev main_v732 : Ref sig .tc := ⟨.hbm, 1040, rfl⟩
abbrev main_v733 : Ref sig .tc := ⟨.hbm, 1041, rfl⟩
abbrev main_c_219 : Ref sig .tc := ⟨.hbm, 1042, rfl⟩
abbrev main_v734 : Ref sig .tc := ⟨.hbm, 1043, rfl⟩
abbrev main_v735 : Ref sig .tc := ⟨.hbm, 1044, rfl⟩
abbrev main_v736 : Ref sig .tc := ⟨.hbm, 1045, rfl⟩
abbrev main_c_220 : Ref sig .tc := ⟨.hbm, 1046, rfl⟩
abbrev main_v737 : Ref sig .tc := ⟨.hbm, 1047, rfl⟩
abbrev main_v738 : Ref sig .tc := ⟨.hbm, 1048, rfl⟩
abbrev main_c_221 : Ref sig .tc := ⟨.hbm, 1049, rfl⟩
abbrev main_v739 : Ref sig .tc := ⟨.hbm, 1050, rfl⟩
abbrev main_v740 : Ref sig .tc := ⟨.hbm, 1051, rfl⟩
abbrev main_v741 : Ref sig .tc := ⟨.hbm, 1052, rfl⟩
abbrev main_v742 : Ref sig .tc := ⟨.hbm, 1053, rfl⟩
abbrev main_v743 : Ref sig .tc := ⟨.hbm, 1054, rfl⟩
abbrev main_v744 : Ref sig .tc := ⟨.hbm, 1055, rfl⟩
abbrev main_v745 : Ref sig .tc := ⟨.hbm, 1056, rfl⟩
abbrev main_v746 : Ref sig .tc := ⟨.hbm, 1057, rfl⟩
abbrev main_v747 : Ref sig .tc := ⟨.hbm, 1058, rfl⟩
abbrev main_v748 : Ref sig .tc := ⟨.hbm, 1059, rfl⟩
abbrev main_v749 : Ref sig .tc := ⟨.hbm, 1060, rfl⟩
abbrev main_v750 : Ref sig .tc := ⟨.hbm, 1061, rfl⟩
abbrev main_v751 : Ref sig .tc := ⟨.hbm, 1062, rfl⟩
abbrev main_v752 : Ref sig .tc := ⟨.hbm, 1063, rfl⟩
abbrev main_v753 : Ref sig .tc := ⟨.hbm, 1064, rfl⟩
abbrev main_v754 : Ref sig .tc := ⟨.hbm, 1065, rfl⟩
abbrev main_c_222 : Ref sig .tc := ⟨.hbm, 1066, rfl⟩
abbrev main_v755 : Ref sig .tc := ⟨.hbm, 1067, rfl⟩
abbrev main_v756 : Ref sig .tc := ⟨.hbm, 1068, rfl⟩
abbrev main_c_223 : Ref sig .tc := ⟨.hbm, 1069, rfl⟩
abbrev main_v757 : Ref sig .tc := ⟨.hbm, 1070, rfl⟩
abbrev main_v758 : Ref sig .tc := ⟨.hbm, 1071, rfl⟩
abbrev main_v759 : Ref sig .tc := ⟨.hbm, 1072, rfl⟩
abbrev main_c_224 : Ref sig .tc := ⟨.hbm, 1073, rfl⟩
abbrev main_v760 : Ref sig .tc := ⟨.hbm, 1074, rfl⟩
abbrev main_v761 : Ref sig .tc := ⟨.hbm, 1075, rfl⟩
abbrev main_c_225 : Ref sig .tc := ⟨.hbm, 1076, rfl⟩
abbrev main_v762 : Ref sig .tc := ⟨.hbm, 1077, rfl⟩
abbrev main_v763 : Ref sig .tc := ⟨.hbm, 1078, rfl⟩
abbrev main_v764 : Ref sig .tc := ⟨.hbm, 1079, rfl⟩
abbrev main_c_226 : Ref sig .tc := ⟨.hbm, 1080, rfl⟩
abbrev main_v765 : Ref sig .tc := ⟨.hbm, 1081, rfl⟩
abbrev main_v766 : Ref sig .tc := ⟨.hbm, 1082, rfl⟩
abbrev main_c_227 : Ref sig .tc := ⟨.hbm, 1083, rfl⟩
abbrev main_v767 : Ref sig .tc := ⟨.hbm, 1084, rfl⟩
abbrev main_v768 : Ref sig .tc := ⟨.hbm, 1085, rfl⟩
abbrev main_v769 : Ref sig .tc := ⟨.hbm, 1086, rfl⟩
abbrev main_c_228 : Ref sig .tc := ⟨.hbm, 1087, rfl⟩
abbrev main_v770 : Ref sig .tc := ⟨.hbm, 1088, rfl⟩
abbrev main_v771 : Ref sig .tc := ⟨.hbm, 1089, rfl⟩
abbrev main_c_229 : Ref sig .tc := ⟨.hbm, 1090, rfl⟩
abbrev main_v772 : Ref sig .tc := ⟨.hbm, 1091, rfl⟩
abbrev main_v773 : Ref sig .tc := ⟨.hbm, 1092, rfl⟩
abbrev main_v774 : Ref sig .tc := ⟨.hbm, 1093, rfl⟩
abbrev main_v775 : Ref sig .tc := ⟨.hbm, 1094, rfl⟩
abbrev main_v776 : Ref sig .tc := ⟨.hbm, 1095, rfl⟩
abbrev main_v777 : Ref sig .tc := ⟨.hbm, 1096, rfl⟩
abbrev main_v778 : Ref sig .tc := ⟨.hbm, 1097, rfl⟩
abbrev main_v779 : Ref sig .tc := ⟨.hbm, 1098, rfl⟩
abbrev main_v780 : Ref sig .tc := ⟨.hbm, 1099, rfl⟩
abbrev main_v781 : Ref sig .tc := ⟨.hbm, 1100, rfl⟩
abbrev main_v782 : Ref sig .tc := ⟨.hbm, 1101, rfl⟩
abbrev main_v783 : Ref sig .tc := ⟨.hbm, 1102, rfl⟩
abbrev main_v784 : Ref sig .tc := ⟨.hbm, 1103, rfl⟩
abbrev main_cst_230 : Ref sig .tc := ⟨.hbm, 1104, rfl⟩
abbrev main_v785 : Ref sig .tc := ⟨.hbm, 1105, rfl⟩
abbrev main_v786 : Ref sig .tc := ⟨.hbm, 1106, rfl⟩
abbrev main_v787 : Ref sig .tc := ⟨.hbm, 1107, rfl⟩
abbrev main_v788 : Ref sig .tc := ⟨.hbm, 1108, rfl⟩
abbrev main_v789 : Ref sig .tc := ⟨.hbm, 1109, rfl⟩
abbrev main_c_231 : Ref sig .tc := ⟨.hbm, 1110, rfl⟩
abbrev main_v790 : Ref sig .tc := ⟨.hbm, 1111, rfl⟩
abbrev main_v791 : Ref sig .tc := ⟨.hbm, 1112, rfl⟩
abbrev main_c_232 : Ref sig .tc := ⟨.hbm, 1113, rfl⟩
abbrev main_v792 : Ref sig .tc := ⟨.hbm, 1114, rfl⟩
abbrev main_v793 : Ref sig .tc := ⟨.hbm, 1115, rfl⟩
abbrev main_v794 : Ref sig .tc := ⟨.hbm, 1116, rfl⟩
abbrev main_c_233 : Ref sig .tc := ⟨.hbm, 1117, rfl⟩
abbrev main_v795 : Ref sig .tc := ⟨.hbm, 1118, rfl⟩
abbrev main_v796 : Ref sig .tc := ⟨.hbm, 1119, rfl⟩
abbrev main_c_234 : Ref sig .tc := ⟨.hbm, 1120, rfl⟩
abbrev main_v797 : Ref sig .tc := ⟨.hbm, 1121, rfl⟩
abbrev main_v798 : Ref sig .tc := ⟨.hbm, 1122, rfl⟩
abbrev main_v799 : Ref sig .tc := ⟨.hbm, 1123, rfl⟩
abbrev main_c_235 : Ref sig .tc := ⟨.hbm, 1124, rfl⟩
abbrev main_v800 : Ref sig .tc := ⟨.hbm, 1125, rfl⟩
abbrev main_v801 : Ref sig .tc := ⟨.hbm, 1126, rfl⟩
abbrev main_c_236 : Ref sig .tc := ⟨.hbm, 1127, rfl⟩
abbrev main_v802 : Ref sig .tc := ⟨.hbm, 1128, rfl⟩
abbrev main_v803 : Ref sig .tc := ⟨.hbm, 1129, rfl⟩
abbrev main_v804 : Ref sig .tc := ⟨.hbm, 1130, rfl⟩
abbrev main_c_237 : Ref sig .tc := ⟨.hbm, 1131, rfl⟩
abbrev main_v805 : Ref sig .tc := ⟨.hbm, 1132, rfl⟩
abbrev main_v806 : Ref sig .tc := ⟨.hbm, 1133, rfl⟩
abbrev main_c_238 : Ref sig .tc := ⟨.hbm, 1134, rfl⟩
abbrev main_v807 : Ref sig .tc := ⟨.hbm, 1135, rfl⟩
abbrev main_v808 : Ref sig .tc := ⟨.hbm, 1136, rfl⟩
abbrev main_v809 : Ref sig .tc := ⟨.hbm, 1137, rfl⟩
abbrev main_v810 : Ref sig .tc := ⟨.hbm, 1138, rfl⟩
abbrev main_v811 : Ref sig .tc := ⟨.hbm, 1139, rfl⟩
abbrev main_v812 : Ref sig .tc := ⟨.hbm, 1140, rfl⟩
abbrev main_v813 : Ref sig .tc := ⟨.hbm, 1141, rfl⟩
abbrev main_v814 : Ref sig .tc := ⟨.hbm, 1142, rfl⟩
abbrev main_v815 : Ref sig .tc := ⟨.hbm, 1143, rfl⟩
abbrev main_v816 : Ref sig .tc := ⟨.hbm, 1144, rfl⟩
abbrev main_v817 : Ref sig .tc := ⟨.hbm, 1145, rfl⟩
abbrev main_v818 : Ref sig .tc := ⟨.hbm, 1146, rfl⟩
abbrev main_v819 : Ref sig .tc := ⟨.hbm, 1147, rfl⟩
abbrev main_v820 : Ref sig .tc := ⟨.hbm, 1148, rfl⟩
abbrev main_v821 : Ref sig .tc := ⟨.hbm, 1149, rfl⟩
abbrev main_v822 : Ref sig .tc := ⟨.hbm, 1150, rfl⟩
abbrev main_c_239 : Ref sig .tc := ⟨.hbm, 1151, rfl⟩
abbrev main_v823 : Ref sig .tc := ⟨.hbm, 1152, rfl⟩
abbrev main_v824 : Ref sig .tc := ⟨.hbm, 1153, rfl⟩
abbrev main_c_240 : Ref sig .tc := ⟨.hbm, 1154, rfl⟩
abbrev main_v825 : Ref sig .tc := ⟨.hbm, 1155, rfl⟩
abbrev main_v826 : Ref sig .tc := ⟨.hbm, 1156, rfl⟩
abbrev main_v827 : Ref sig .tc := ⟨.hbm, 1157, rfl⟩
abbrev main_c_241 : Ref sig .tc := ⟨.hbm, 1158, rfl⟩
abbrev main_v828 : Ref sig .tc := ⟨.hbm, 1159, rfl⟩
abbrev main_v829 : Ref sig .tc := ⟨.hbm, 1160, rfl⟩
abbrev main_c_242 : Ref sig .tc := ⟨.hbm, 1161, rfl⟩
abbrev main_v830 : Ref sig .tc := ⟨.hbm, 1162, rfl⟩
abbrev main_v831 : Ref sig .tc := ⟨.hbm, 1163, rfl⟩
abbrev main_v832 : Ref sig .tc := ⟨.hbm, 1164, rfl⟩
abbrev main_c_243 : Ref sig .tc := ⟨.hbm, 1165, rfl⟩
abbrev main_v833 : Ref sig .tc := ⟨.hbm, 1166, rfl⟩
abbrev main_v834 : Ref sig .tc := ⟨.hbm, 1167, rfl⟩
abbrev main_c_244 : Ref sig .tc := ⟨.hbm, 1168, rfl⟩
abbrev main_v835 : Ref sig .tc := ⟨.hbm, 1169, rfl⟩
abbrev main_v836 : Ref sig .tc := ⟨.hbm, 1170, rfl⟩
abbrev main_v837 : Ref sig .tc := ⟨.hbm, 1171, rfl⟩
abbrev main_c_245 : Ref sig .tc := ⟨.hbm, 1172, rfl⟩
abbrev main_v838 : Ref sig .tc := ⟨.hbm, 1173, rfl⟩
abbrev main_v839 : Ref sig .tc := ⟨.hbm, 1174, rfl⟩
abbrev main_c_246 : Ref sig .tc := ⟨.hbm, 1175, rfl⟩
abbrev main_v840 : Ref sig .tc := ⟨.hbm, 1176, rfl⟩
abbrev main_v841 : Ref sig .tc := ⟨.hbm, 1177, rfl⟩
abbrev main_v842 : Ref sig .tc := ⟨.hbm, 1178, rfl⟩
abbrev main_v843 : Ref sig .tc := ⟨.hbm, 1179, rfl⟩
abbrev main_v844 : Ref sig .tc := ⟨.hbm, 1180, rfl⟩
abbrev main_v845 : Ref sig .tc := ⟨.hbm, 1181, rfl⟩
abbrev main_v846 : Ref sig .tc := ⟨.hbm, 1182, rfl⟩
abbrev main_v847 : Ref sig .tc := ⟨.hbm, 1183, rfl⟩
abbrev main_v848 : Ref sig .tc := ⟨.hbm, 1184, rfl⟩
abbrev main_v849 : Ref sig .tc := ⟨.hbm, 1185, rfl⟩
abbrev main_v850 : Ref sig .tc := ⟨.hbm, 1186, rfl⟩
abbrev main_v851 : Ref sig .tc := ⟨.hbm, 1187, rfl⟩
abbrev main_v852 : Ref sig .tc := ⟨.hbm, 1188, rfl⟩
abbrev main_cst_247 : Ref sig .tc := ⟨.hbm, 1189, rfl⟩
abbrev main_v853 : Ref sig .tc := ⟨.hbm, 1190, rfl⟩
abbrev main_v854 : Ref sig .tc := ⟨.hbm, 1191, rfl⟩
abbrev main_cst_248 : Ref sig .tc := ⟨.hbm, 1192, rfl⟩
abbrev main_v855 : Ref sig .tc := ⟨.hbm, 1193, rfl⟩
abbrev main_v856 : Ref sig .tc := ⟨.hbm, 1194, rfl⟩
abbrev main_v857 : Ref sig .tc := ⟨.hbm, 1195, rfl⟩
abbrev main_v858 : Ref sig .tc := ⟨.hbm, 1196, rfl⟩
abbrev main_v859 : Ref sig .tc := ⟨.hbm, 1197, rfl⟩
abbrev main_c_249 : Ref sig .tc := ⟨.hbm, 1198, rfl⟩
abbrev main_v860 : Ref sig .tc := ⟨.hbm, 1199, rfl⟩
abbrev main_v861 : Ref sig .tc := ⟨.hbm, 1200, rfl⟩
abbrev main_c_250 : Ref sig .tc := ⟨.hbm, 1201, rfl⟩
abbrev main_v862 : Ref sig .tc := ⟨.hbm, 1202, rfl⟩
abbrev main_v863 : Ref sig .tc := ⟨.hbm, 1203, rfl⟩
abbrev main_v864 : Ref sig .tc := ⟨.hbm, 1204, rfl⟩
abbrev main_c_251 : Ref sig .tc := ⟨.hbm, 1205, rfl⟩
abbrev main_v865 : Ref sig .tc := ⟨.hbm, 1206, rfl⟩
abbrev main_v866 : Ref sig .tc := ⟨.hbm, 1207, rfl⟩
abbrev main_c_252 : Ref sig .tc := ⟨.hbm, 1208, rfl⟩
abbrev main_v867 : Ref sig .tc := ⟨.hbm, 1209, rfl⟩
abbrev main_v868 : Ref sig .tc := ⟨.hbm, 1210, rfl⟩
abbrev main_v869 : Ref sig .tc := ⟨.hbm, 1211, rfl⟩
abbrev main_c_253 : Ref sig .tc := ⟨.hbm, 1212, rfl⟩
abbrev main_v870 : Ref sig .tc := ⟨.hbm, 1213, rfl⟩
abbrev main_v871 : Ref sig .tc := ⟨.hbm, 1214, rfl⟩
abbrev main_c_254 : Ref sig .tc := ⟨.hbm, 1215, rfl⟩
abbrev main_v872 : Ref sig .tc := ⟨.hbm, 1216, rfl⟩
abbrev main_v873 : Ref sig .tc := ⟨.hbm, 1217, rfl⟩
abbrev main_v874 : Ref sig .tc := ⟨.hbm, 1218, rfl⟩
abbrev main_c_255 : Ref sig .tc := ⟨.hbm, 1219, rfl⟩
abbrev main_v875 : Ref sig .tc := ⟨.hbm, 1220, rfl⟩
abbrev main_v876 : Ref sig .tc := ⟨.hbm, 1221, rfl⟩
abbrev main_c_256 : Ref sig .tc := ⟨.hbm, 1222, rfl⟩
abbrev main_v877 : Ref sig .tc := ⟨.hbm, 1223, rfl⟩
abbrev main_v878 : Ref sig .tc := ⟨.hbm, 1224, rfl⟩
abbrev main_v879 : Ref sig .tc := ⟨.hbm, 1225, rfl⟩
abbrev main_v880 : Ref sig .tc := ⟨.hbm, 1226, rfl⟩
abbrev main_v881 : Ref sig .tc := ⟨.hbm, 1227, rfl⟩
abbrev main_v882 : Ref sig .tc := ⟨.hbm, 1228, rfl⟩
abbrev main_v883 : Ref sig .tc := ⟨.hbm, 1229, rfl⟩
abbrev main_v884 : Ref sig .tc := ⟨.hbm, 1230, rfl⟩
abbrev main_v885 : Ref sig .tc := ⟨.hbm, 1231, rfl⟩
abbrev main_v886 : Ref sig .tc := ⟨.hbm, 1232, rfl⟩
abbrev main_v887 : Ref sig .tc := ⟨.hbm, 1233, rfl⟩
abbrev main_v888 : Ref sig .tc := ⟨.hbm, 1234, rfl⟩
abbrev main_v889 : Ref sig .tc := ⟨.hbm, 1235, rfl⟩
abbrev main_v890 : Ref sig .tc := ⟨.hbm, 1236, rfl⟩
abbrev main_v891 : Ref sig .tc := ⟨.hbm, 1237, rfl⟩
abbrev main_v892 : Ref sig .tc := ⟨.hbm, 1238, rfl⟩
abbrev main_c_257 : Ref sig .tc := ⟨.hbm, 1239, rfl⟩
abbrev main_v893 : Ref sig .tc := ⟨.hbm, 1240, rfl⟩
abbrev main_v894 : Ref sig .tc := ⟨.hbm, 1241, rfl⟩
abbrev main_c_258 : Ref sig .tc := ⟨.hbm, 1242, rfl⟩
abbrev main_v895 : Ref sig .tc := ⟨.hbm, 1243, rfl⟩
abbrev main_v896 : Ref sig .tc := ⟨.hbm, 1244, rfl⟩
abbrev main_v897 : Ref sig .tc := ⟨.hbm, 1245, rfl⟩
abbrev main_c_259 : Ref sig .tc := ⟨.hbm, 1246, rfl⟩
abbrev main_v898 : Ref sig .tc := ⟨.hbm, 1247, rfl⟩
abbrev main_v899 : Ref sig .tc := ⟨.hbm, 1248, rfl⟩
abbrev main_c_260 : Ref sig .tc := ⟨.hbm, 1249, rfl⟩
abbrev main_v900 : Ref sig .tc := ⟨.hbm, 1250, rfl⟩
abbrev main_v901 : Ref sig .tc := ⟨.hbm, 1251, rfl⟩
abbrev main_v902 : Ref sig .tc := ⟨.hbm, 1252, rfl⟩
abbrev main_c_261 : Ref sig .tc := ⟨.hbm, 1253, rfl⟩
abbrev main_v903 : Ref sig .tc := ⟨.hbm, 1254, rfl⟩
abbrev main_v904 : Ref sig .tc := ⟨.hbm, 1255, rfl⟩
abbrev main_c_262 : Ref sig .tc := ⟨.hbm, 1256, rfl⟩
abbrev main_v905 : Ref sig .tc := ⟨.hbm, 1257, rfl⟩
abbrev main_v906 : Ref sig .tc := ⟨.hbm, 1258, rfl⟩
abbrev main_v907 : Ref sig .tc := ⟨.hbm, 1259, rfl⟩
abbrev main_c_263 : Ref sig .tc := ⟨.hbm, 1260, rfl⟩
abbrev main_v908 : Ref sig .tc := ⟨.hbm, 1261, rfl⟩
abbrev main_v909 : Ref sig .tc := ⟨.hbm, 1262, rfl⟩
abbrev main_c_264 : Ref sig .tc := ⟨.hbm, 1263, rfl⟩
abbrev main_v910 : Ref sig .tc := ⟨.hbm, 1264, rfl⟩
abbrev main_v911 : Ref sig .tc := ⟨.hbm, 1265, rfl⟩
abbrev main_v912 : Ref sig .tc := ⟨.hbm, 1266, rfl⟩
abbrev main_v913 : Ref sig .tc := ⟨.hbm, 1267, rfl⟩
abbrev main_v914 : Ref sig .tc := ⟨.hbm, 1268, rfl⟩
abbrev main_v915 : Ref sig .tc := ⟨.hbm, 1269, rfl⟩
abbrev main_v916 : Ref sig .tc := ⟨.hbm, 1270, rfl⟩
abbrev main_v917 : Ref sig .tc := ⟨.hbm, 1271, rfl⟩
abbrev main_v918 : Ref sig .tc := ⟨.hbm, 1272, rfl⟩
abbrev main_v919 : Ref sig .tc := ⟨.hbm, 1273, rfl⟩
abbrev main_v920 : Ref sig .tc := ⟨.hbm, 1274, rfl⟩
abbrev main_v921 : Ref sig .tc := ⟨.hbm, 1275, rfl⟩
abbrev main_v922 : Ref sig .tc := ⟨.hbm, 1276, rfl⟩
abbrev main_cst_265 : Ref sig .tc := ⟨.hbm, 1277, rfl⟩
abbrev main_v923 : Ref sig .tc := ⟨.hbm, 1278, rfl⟩
abbrev main_v924 : Ref sig .tc := ⟨.hbm, 1279, rfl⟩
abbrev main_v925 : Ref sig .tc := ⟨.hbm, 1280, rfl⟩
abbrev main_v926 : Ref sig .tc := ⟨.hbm, 1281, rfl⟩
abbrev main_v927 : Ref sig .tc := ⟨.hbm, 1282, rfl⟩
abbrev main_c_266 : Ref sig .tc := ⟨.hbm, 1283, rfl⟩
abbrev main_v928 : Ref sig .tc := ⟨.hbm, 1284, rfl⟩
abbrev main_v929 : Ref sig .tc := ⟨.hbm, 1285, rfl⟩
abbrev main_c_267 : Ref sig .tc := ⟨.hbm, 1286, rfl⟩
abbrev main_v930 : Ref sig .tc := ⟨.hbm, 1287, rfl⟩
abbrev main_v931 : Ref sig .tc := ⟨.hbm, 1288, rfl⟩
abbrev main_v932 : Ref sig .tc := ⟨.hbm, 1289, rfl⟩
abbrev main_c_268 : Ref sig .tc := ⟨.hbm, 1290, rfl⟩
abbrev main_v933 : Ref sig .tc := ⟨.hbm, 1291, rfl⟩
abbrev main_v934 : Ref sig .tc := ⟨.hbm, 1292, rfl⟩
abbrev main_c_269 : Ref sig .tc := ⟨.hbm, 1293, rfl⟩
abbrev main_v935 : Ref sig .tc := ⟨.hbm, 1294, rfl⟩
abbrev main_v936 : Ref sig .tc := ⟨.hbm, 1295, rfl⟩
abbrev main_v937 : Ref sig .tc := ⟨.hbm, 1296, rfl⟩
abbrev main_c_270 : Ref sig .tc := ⟨.hbm, 1297, rfl⟩
abbrev main_v938 : Ref sig .tc := ⟨.hbm, 1298, rfl⟩
abbrev main_v939 : Ref sig .tc := ⟨.hbm, 1299, rfl⟩
abbrev main_c_271 : Ref sig .tc := ⟨.hbm, 1300, rfl⟩
abbrev main_v940 : Ref sig .tc := ⟨.hbm, 1301, rfl⟩
abbrev main_v941 : Ref sig .tc := ⟨.hbm, 1302, rfl⟩
abbrev main_v942 : Ref sig .tc := ⟨.hbm, 1303, rfl⟩
abbrev main_c_272 : Ref sig .tc := ⟨.hbm, 1304, rfl⟩
abbrev main_v943 : Ref sig .tc := ⟨.hbm, 1305, rfl⟩
abbrev main_v944 : Ref sig .tc := ⟨.hbm, 1306, rfl⟩
abbrev main_c_273 : Ref sig .tc := ⟨.hbm, 1307, rfl⟩
abbrev main_v945 : Ref sig .tc := ⟨.hbm, 1308, rfl⟩
abbrev main_v946 : Ref sig .tc := ⟨.hbm, 1309, rfl⟩
abbrev main_v947 : Ref sig .tc := ⟨.hbm, 1310, rfl⟩
abbrev main_v948 : Ref sig .tc := ⟨.hbm, 1311, rfl⟩
abbrev main_v949 : Ref sig .tc := ⟨.hbm, 1312, rfl⟩
abbrev main_v950 : Ref sig .tc := ⟨.hbm, 1313, rfl⟩
abbrev main_v951 : Ref sig .tc := ⟨.hbm, 1314, rfl⟩
abbrev main_v952 : Ref sig .tc := ⟨.hbm, 1315, rfl⟩
abbrev main_v953 : Ref sig .tc := ⟨.hbm, 1316, rfl⟩
abbrev main_v954 : Ref sig .tc := ⟨.hbm, 1317, rfl⟩
abbrev main_v955 : Ref sig .tc := ⟨.hbm, 1318, rfl⟩
abbrev main_v956 : Ref sig .tc := ⟨.hbm, 1319, rfl⟩
abbrev main_v957 : Ref sig .tc := ⟨.hbm, 1320, rfl⟩
abbrev main_v958 : Ref sig .tc := ⟨.hbm, 1321, rfl⟩
abbrev main_v959 : Ref sig .tc := ⟨.hbm, 1322, rfl⟩
abbrev main_v960 : Ref sig .tc := ⟨.hbm, 1323, rfl⟩
abbrev main_c_274 : Ref sig .tc := ⟨.hbm, 1324, rfl⟩
abbrev main_v961 : Ref sig .tc := ⟨.hbm, 1325, rfl⟩
abbrev main_v962 : Ref sig .tc := ⟨.hbm, 1326, rfl⟩
abbrev main_c_275 : Ref sig .tc := ⟨.hbm, 1327, rfl⟩
abbrev main_v963 : Ref sig .tc := ⟨.hbm, 1328, rfl⟩
abbrev main_v964 : Ref sig .tc := ⟨.hbm, 1329, rfl⟩
abbrev main_v965 : Ref sig .tc := ⟨.hbm, 1330, rfl⟩
abbrev main_c_276 : Ref sig .tc := ⟨.hbm, 1331, rfl⟩
abbrev main_v966 : Ref sig .tc := ⟨.hbm, 1332, rfl⟩
abbrev main_v967 : Ref sig .tc := ⟨.hbm, 1333, rfl⟩
abbrev main_c_277 : Ref sig .tc := ⟨.hbm, 1334, rfl⟩
abbrev main_v968 : Ref sig .tc := ⟨.hbm, 1335, rfl⟩
abbrev main_v969 : Ref sig .tc := ⟨.hbm, 1336, rfl⟩
abbrev main_v970 : Ref sig .tc := ⟨.hbm, 1337, rfl⟩
abbrev main_c_278 : Ref sig .tc := ⟨.hbm, 1338, rfl⟩
abbrev main_v971 : Ref sig .tc := ⟨.hbm, 1339, rfl⟩
abbrev main_v972 : Ref sig .tc := ⟨.hbm, 1340, rfl⟩
abbrev main_c_279 : Ref sig .tc := ⟨.hbm, 1341, rfl⟩
abbrev main_v973 : Ref sig .tc := ⟨.hbm, 1342, rfl⟩
abbrev main_v974 : Ref sig .tc := ⟨.hbm, 1343, rfl⟩
abbrev main_v975 : Ref sig .tc := ⟨.hbm, 1344, rfl⟩
abbrev main_c_280 : Ref sig .tc := ⟨.hbm, 1345, rfl⟩
abbrev main_v976 : Ref sig .tc := ⟨.hbm, 1346, rfl⟩
abbrev main_v977 : Ref sig .tc := ⟨.hbm, 1347, rfl⟩
abbrev main_c_281 : Ref sig .tc := ⟨.hbm, 1348, rfl⟩
abbrev main_v978 : Ref sig .tc := ⟨.hbm, 1349, rfl⟩
abbrev main_v979 : Ref sig .tc := ⟨.hbm, 1350, rfl⟩
abbrev main_v980 : Ref sig .tc := ⟨.hbm, 1351, rfl⟩
abbrev main_v981 : Ref sig .tc := ⟨.hbm, 1352, rfl⟩
abbrev main_v982 : Ref sig .tc := ⟨.hbm, 1353, rfl⟩
abbrev main_v983 : Ref sig .tc := ⟨.hbm, 1354, rfl⟩
abbrev main_v984 : Ref sig .tc := ⟨.hbm, 1355, rfl⟩
abbrev main_v985 : Ref sig .tc := ⟨.hbm, 1356, rfl⟩
abbrev main_v986 : Ref sig .tc := ⟨.hbm, 1357, rfl⟩
abbrev main_v987 : Ref sig .tc := ⟨.hbm, 1358, rfl⟩
abbrev main_v988 : Ref sig .tc := ⟨.hbm, 1359, rfl⟩
abbrev main_v989 : Ref sig .tc := ⟨.hbm, 1360, rfl⟩
abbrev main_v990 : Ref sig .tc := ⟨.hbm, 1361, rfl⟩
abbrev main_v991 : Ref sig .tc := ⟨.hbm, 1362, rfl⟩
abbrev main_v992 : Ref sig .tc := ⟨.hbm, 1363, rfl⟩
abbrev main_v993 : Ref sig .tc := ⟨.hbm, 1364, rfl⟩

abbrev nD : Nat := 1
abbrev τ : Topo := Topo.v7x

variable {F : FTy → Type} [FloatOps F]
-- ==== Proof.Body.lean ====
/-
  What one grid point computes, in this file's own words: per colour channel an accumulator over the three curve chunks
  and the five control points `z = 3 … 7` of each, every term a weight times the product (row matrix) · (control image) ·
  (column matrix).  The printed body's stored blocks are these, by unfolding; and the accumulator is read at an index as a
  sum of extended reals.
-/
module

public import proofs.«01_k».proof.Proof.Gen.KernelIdeal.Frame
public import Idealize.ShloMosaic.Lib.Pointwise

@[expose] public section

set_option maxRecDepth 16384

noncomputable section

namespace Cert.KernelIdeal.Body

open Idealize.ShloMosaic Idealize.ShloMosaic.TcCoe Idealize.SL.Sem
open Cert.KernelIdeal Cert.KernelIdeal.Gen

variable {F : FTy → Type} [FloatOps F]

/-- The position on the curve, `clip ((x + 1) · 3.5, 0, 7)`, of a block of one colour channel of the image. -/
def zPos (X : Vec F S1x1x256x1024 .f32) : FVec F S256x1024 .f32 :=
  minimumf (broadcast S256x1024 (Scalar.ofBits .f32 0x40E00000#32))
    (maximumf (broadcast S256x1024 (Scalar.ofBits .f32 0x00000000#32))
      (mulf (addf (shapeCast S256x1024 X shapeCasts_S1x1x256x1024_S256x1024) (broadcast S256x1024 (Scalar.ofBits .f32 0x3F800000#32)))
        (broadcast S256x1024 (Scalar.ofBits .f32 0x40600000#32))))

/-- The tent weight `max 0 (1 - |iz - z|)` of one control point, `z` the float with the given bits. -/
def zWeight (iz : FVec F S256x1024 .f32) (z : BitVec 32) : FVec F S256x1024 .f32 :=
  maximumf (broadcast S256x1024 (Scalar.ofBits .f32 0x00000000#32))
    (subf (broadcast S256x1024 (Scalar.ofBits .f32 0x3F800000#32)) (absf (subf iz (broadcast S256x1024 (Scalar.ofBits .f32 z)))))

/-- One control image `P` resized by the row matrix `A` and the column matrix `B`. -/
def resized (A : FVec F S256x256 .f32) (B : FVec F S256x1024 .f32) (P : Vec F S1x1x256x256 .f32) : FVec F S256x1024 .f32 :=
  matmul dot_S256x256_S256x1024_S256x1024_1_0_0_1_n_n none
    (matmul dot_S256x256_S256x256_S256x256_1_0_0_1_n_n none A (shapeCast S256x256 P shapeCasts_S1x1x256x256_S256x256) (constant S256x256 .f32 0x00000000#32))
    B (constant S256x1024 .f32 0x00000000#32)

/-- The five terms of one chunk, added to `acc` one after the other. -/
def chunk (A : FVec F S256x256 .f32) (B : FVec F S256x1024 .f32) (iz acc : FVec F S256x1024 .f32)
    (P3 P4 P5 P6 P7 : Vec F S1x1x256x256 .f32) : FVec F S256x1024 .f32 :=
  addf (addf (addf (addf (addf acc (mulf (zWeight iz 0x40400000#32) (resized A B P3)))
    (mulf (zWeight iz 0x40800000#32) (resized A B P4))) (mulf (zWeight iz 0x40A00000#32) (resized A B P5)))
    (mulf (zWeight iz 0x40C00000#32) (resized A B P6))) (mulf (zWeight iz 0x40E00000#32) (resized A B P7))

/-- The row matrix's block as the body uses it. -/
def rowM (x0 : Vec F S256x256 .f32) : FVec F S256x256 .f32 := shapeCast S256x256 (View.ld x0 r0_0) shapeCasts_S256x256_S256x256

/-- The column matrix as the body uses it. -/
def colM (x1 : Vec F S256x1024 .f32) : FVec F S256x1024 .f32 := shapeCast S256x1024 (View.ld x1 r0_1) shapeCasts_S256x1024_S256x1024

/-- The accumulator of colour channel 0 after its fifteen terms. -/
def acc0 (x0 : Vec F S256x256 .f32) (x1 : Vec F S256x1024 .f32) (x2 : Vec F S1x3x256x1024 .f32) (x3 : Vec F S1x72x256x256 .f32) : FVec F S256x1024 .f32 :=
  chunk (rowM x0) (colM x1) (zPos (View.ld x2 r0_34))
    (chunk (rowM x0) (colM x1) (zPos (View.ld x2 r0_18))
      (chunk (rowM x0) (colM x1) (zPos (View.ld x2 r0_2)) (broadcast S256x1024 (Scalar.ofBits .f32 0x00000000#32))
        (View.ld x3 r0_3) (View.ld x3 r0_6) (View.ld x3 r0_9) (View.ld x3 r0_12) (View.ld x3 r0_15))
      (View.ld x3 r0_19) (View.ld x3 r0_22) (View.ld x3 r0_25) (View.ld x3 r0_28) (View.ld x3 r0_31))
    (View.ld x3 r0_35) (View.ld x3 r0_38) (View.ld x3 r0_41) (View.ld x3 r0_44) (View.ld x3 r0_47)

/-- The accumulator of colour channel 1 after its fifteen terms. -/
def acc1 (x0 : Vec F S256x256 .f32) (x1 : Vec F S256x1024 .f32) (x2 : Vec F S1x3x256x1024 .f32) (x3 : Vec F S1x72x256x256 .f32) : FVec F S256x1024 .f32 :=
  chunk (rowM x0) (colM x1) (zPos (View.ld x2 r0_34))
    (chunk (rowM x0) (colM x1) (zPos (View.ld x2 r0_18))
      (chunk (rowM x0) (colM x1) (zPos (View.ld x2 r0_2)) (broadcast S256x1024 (Scalar.ofBits .f32 0x00000000#32))
        (View.ld x3 r0_4) (View.ld x3 r0_7) (View.ld x3 r0_10) (View.ld x3 r0_13) (View.ld x3 r0_16))
      (View.ld x3 r0_20) (View.ld x3 r0_23) (View.ld x3 r0_26) (View.ld x3 r0_29) (View.ld x3 r0_32))
    (View.ld x3 r0_36) (View.ld x3 r0_39) (View.ld x3 r0_42) (View.ld x3 r0_45) (View.ld x3 r0_48)

/-- The accumulator of colour channel 2 after its fifteen terms. -/
def acc2 (x0 : Vec F S256x256 .f32) (x1 : Vec F S256x1024 .f32) (x2 : Vec F S1x3x256x1024 .f32) (x3 : Vec F S1x72x256x256 .f32) : FVec F S256x1024 .f32 :=
  chunk (rowM x0) (colM x1) (zPos (View.ld x2 r0_34))
    (chunk (rowM x0) (colM x1) (zPos (View.ld x2 r0_18))
      (chunk (rowM x0) (colM x1) (zPos (View.ld x2 r0_2)) (broadcast S256x1024 (Scalar.ofBits .f32 0x00000000#32))
        (View.ld x3 r0_5) (View.ld x3 r0_8) (View.ld x3 r0_11) (View.ld x3 r0_14) (View.ld x3 r0_17))
      (View.ld x3 r0_21) (View.ld x3 r0_24) (View.ld x3 r0_27) (View.ld x3 r0_30) (View.ld x3 r0_33))
    (View.ld x3 r0_37) (View.ld x3 r0_40) (View.ld x3 r0_43) (View.ld x3 r0_46) (View.ld x3 r0_49)

/-- A stored block: the accumulator through `tanh`. -/
def stored (acc : FVec F S256x1024 .f32) : FVec F S1x1x256x1024 .f32 :=
  shapeCast S1x1x256x1024 (tanh acc) shapeCasts_S256x1024_S1x1x256x1024

set_option maxHeartbeats 4000000 in
/-- The body's output block is its three stores, each the `tanh` of a colour channel's accumulator. -/
theorem out_eq (x0 : Vec F S256x256 .f32) (x1 : Vec F S256x1024 .f32) (x2 : Vec F S1x3x256x1024 .f32) (x3 : Vec F S1x72x256x256 .f32) :
    out0_4 x0 x1 x2 x3 = View.canon [⟨r0_34, stored (acc2 x0 x1 x2 x3)⟩, ⟨r0_18, stored (acc1 x0 x1 x2 x3)⟩, ⟨r0_2, stored (acc0 x0 x1 x2 x3)⟩] := by
  rfl

end Cert.KernelIdeal.Body
-- ==== Proof.Consts.lean ====
/-
  The float constants both programs spell as bit patterns, as real numbers.
-/
module

public import Idealize.ShloMosaic.Lib.Pointwise

@[expose] public section

noncomputable section

open Idealize.ShloMosaic

namespace Cert.Consts

theorem neg_one : Ideal.ofBits .f32 0xBF800000#32 = ((-(1 : ℝ) : ℝ) : EReal) := by
  simp [Ideal.ofBits, Ideal.ieee, -EReal.coe_mul, -EReal.coe_neg]; norm_num
theorem half : Ideal.ofBits .f32 0x3F000000#32 = ((1 / 2 : ℝ) : EReal) := by
  simp [Ideal.ofBits, Ideal.ieee, -EReal.coe_mul, -EReal.coe_neg]; norm_num
theorem three : Ideal.ofBits .f32 0x40400000#32 = ((3 : ℝ) : EReal) := by
  simp [Ideal.ofBits, Ideal.ieee, -EReal.coe_mul, -EReal.coe_neg]; norm_num
theorem three_half : Ideal.ofBits .f32 0x40600000#32 = ((7 / 2 : ℝ) : EReal) := by
  simp [Ideal.ofBits, Ideal.ieee, -EReal.coe_mul, -EReal.coe_neg]; norm_num
theorem four : Ideal.ofBits .f32 0x40800000#32 = ((4 : ℝ) : EReal) := by
  simp [Ideal.ofBits, Ideal.ieee, -EReal.coe_mul, -EReal.coe_neg]; norm_num
theorem five : Ideal.ofBits .f32 0x40A00000#32 = ((5 : ℝ) : EReal) := by
  simp [Ideal.ofBits, Ideal.ieee, -EReal.coe_mul, -EReal.coe_neg]; norm_num
theorem six : Ideal.ofBits .f32 0x40C00000#32 = ((6 : ℝ) : EReal) := by
  simp [Ideal.ofBits, Ideal.ieee, -EReal.coe_mul, -EReal.coe_neg]; norm_num
theorem seven : Ideal.ofBits .f32 0x40E00000#32 = ((7 : ℝ) : EReal) := by
  simp [Ideal.ofBits, Ideal.ieee, -EReal.coe_mul, -EReal.coe_neg]; norm_num
theorem c255 : Ideal.ofBits .f32 0x437F0000#32 = ((255 : ℝ) : EReal) := by
  simp [Ideal.ofBits, Ideal.ieee, -EReal.coe_mul, -EReal.coe_neg]; norm_num
theorem c1023 : Ideal.ofBits .f32 0x447FC000#32 = ((1023 : ℝ) : EReal) := by
  simp [Ideal.ofBits, Ideal.ieee, -EReal.coe_mul, -EReal.coe_neg]; norm_num

/-- A count below `2^31` converted to a float is that number. -/
theorem ofNat_sitofp (n : ℕ) (h : n < 2 ^ 31) : FloatOps.sitofp (F := Ideal) .f32 (BitVec.ofNat 32 n) = ((n : ℝ) : EReal) := by
  show (((BitVec.ofNat 32 n).toInt : ℝ) : EReal) = _
  have : (BitVec.ofNat 32 n).toInt = (n : ℤ) := by
    have e : (BitVec.ofNat 32 n).toNat = n := by rw [BitVec.toNat_ofNat]; omega
    rw [BitVec.toInt_eq_toNat_of_lt (by omega), e]
  rw [this, Int.cast_natCast]

theorem int255 : FloatOps.sitofp (F := Ideal) .f32 (255#32 : BitVec 32) = ((255 : ℝ) : EReal) := ofNat_sitofp 255 (by norm_num)
theorem int7 : FloatOps.sitofp (F := Ideal) .f32 (7#32 : BitVec 32) = ((7 : ℝ) : EReal) := ofNat_sitofp 7 (by norm_num)

/-- The absolute value is the maximum of a number and its negative. -/
theorem absf_eq (x : EReal) : FloatOps.absf (F := Ideal) (φ := .f32) x = max x (-x) := rfl

/-- Grid coordinate number `w` of 1024 between -1 and 1, as both programs compute it: two weighted ends, the last one apart. -/
theorem lin_at (w : ℕ) (h : w < 1024) (g : EReal)
    (hg : g = if w < 1023 then ((-(1 : ℝ) : ℝ) : EReal) * (1 - Ideal.div ((w : ℝ) : EReal) ((1023 : ℝ) : EReal)) + Ideal.div ((w : ℝ) : EReal) ((1023 : ℝ) : EReal)
      else 1) :
    g = ((2 * w / 1023 - 1 : ℝ) : EReal) := by
  rw [hg]
  split
  · rw [Ideal.div_coe (by norm_num), ← EReal.coe_one, ← EReal.coe_mul, ← EReal.coe_sub, ← EReal.coe_mul, ← EReal.coe_add]
    congr 1; ring
  · have e : w = 1023 := by omega
    subst e
    rw [← EReal.coe_one]; norm_num

/-- The pixel position of grid coordinate number `w` in an image 256 wide: `255 w / 1023`, the clip to `[0, 255]` changing nothing. -/
theorem pos_at (w : ℕ) (h : w < 1024) (g : EReal) (hg : g = ((2 * w / 1023 - 1 : ℝ) : EReal)) :
    min ((255 : ℝ) : EReal) (max 0 ((g + 1) * ((1 / 2 : ℝ) : EReal) * ((255 : ℝ) : EReal))) = ((255 * w / 1023 : ℝ) : EReal) := by
  have hw : (w : ℝ) ≤ 1023 := by exact_mod_cast (by omega : w ≤ 1023)
  have hw0 : (0 : ℝ) ≤ w := Nat.cast_nonneg w
  have e : (g + 1) * ((1 / 2 : ℝ) : EReal) * ((255 : ℝ) : EReal) = ((255 * w / 1023 : ℝ) : EReal) := by
    rw [hg, ← EReal.coe_one, ← EReal.coe_add, ← EReal.coe_mul, ← EReal.coe_mul]
    congr 1; ring
  rw [e, max_eq_right (EReal.coe_nonneg.2 (by positivity)), min_eq_right (EReal.coe_le_coe_iff.2 _)]
  rw [div_le_iff₀ (by norm_num)]; linarith

end Cert.Consts
-- ==== Proof.Weights.lean ====
/-
  Interpolation weights on the extended reals.  A tent function `max 0 (1 - |t - k|)` over the grid points `k = 0 … n-1`
  has at most two values that are not zero: at the grid point below `t` and at the one above it.  So a weighted sum over
  ALL grid points with tent weights is the two-point linear interpolation at `t`.  The weights are finite and not negative,
  hence they distribute over sums of extended reals, whatever the values (infinities included) are.
-/
module

public import Idealize.ShloMosaic.Lib.Pointwise

@[expose] public section

noncomputable section

open Finset

namespace Cert.Weights

/-- The tent weight of grid point `k` for the position `t`. -/
def tent (t k : ℝ) : ℝ := max 0 (1 - |t - k|)

theorem tent_nonneg (t k : ℝ) : 0 ≤ tent t k := le_max_left _ _

/-- The tent weight as the programs spell it: maximum, difference and absolute value of extended reals. -/
theorem tent_coe (t k : ℝ) :
    max (0 : EReal) (1 - max ((t : EReal) - (k : EReal)) (-((t : EReal) - (k : EReal)))) = ((tent t k : ℝ) : EReal) := by
  have h : max ((t : EReal) - (k : EReal)) (-((t : EReal) - (k : EReal))) = ((|t - k| : ℝ) : EReal) := by
    rw [← EReal.coe_sub, ← EReal.coe_neg, abs_eq_max_neg, EReal.coe_strictMono.monotone.map_max]
  rw [h, tent, EReal.coe_strictMono.monotone.map_max, EReal.coe_sub, EReal.coe_one, EReal.coe_zero]

/-- One unit or more away from the position the weight is zero. -/
theorem tent_far {t k : ℝ} (h : 1 ≤ |t - k|) : tent t k = 0 := max_eq_left (by linarith)

/-- The lower of the two grid points around `t`. -/
def lo (t : ℝ) : ℕ := ⌊t⌋₊

/-- The distance of `t` from the lower grid point. -/
def fr (t : ℝ) : ℝ := t - (lo t : ℝ)

theorem lo_le {t : ℝ} (h : 0 ≤ t) : (lo t : ℝ) ≤ t := Nat.floor_le h
theorem lt_lo (t : ℝ) : t < (lo t : ℝ) + 1 := Nat.lt_floor_add_one t
theorem fr_nonneg {t : ℝ} (h : 0 ≤ t) : 0 ≤ fr t := sub_nonneg.2 (lo_le h)
theorem fr_le (t : ℝ) : 0 ≤ 1 - fr t := by have := lt_lo t; unfold fr; linarith

theorem lo_lt {n : ℕ} {t : ℝ} (h1 : t ≤ (n : ℝ)) : lo t < n + 1 := by
  have := Nat.floor_le_of_le h1; unfold lo; omega

/-- A sum with tent weights over the grid points `0 … n` is the linear interpolation between the two neighbours of `t`. -/
theorem sum_tent (n : ℕ) (t : ℝ) (h0 : 0 ≤ t) (h1 : t ≤ (n : ℝ)) (f : Fin (n + 1) → EReal) :
    ∑ k : Fin (n + 1), ((tent t (k : ℕ) : ℝ) : EReal) * f k
      = ((1 - fr t : ℝ) : EReal) * f ⟨lo t, lo_lt h1⟩ + ((fr t : ℝ) : EReal) * f ⟨min (lo t + 1) n, by omega⟩ := by
  have hlo := lo_le h0
  have hlt := lt_lo t
  have hn := lo_lt h1
  have wlo : tent t (lo t) = 1 - fr t := by
    unfold tent fr
    rw [abs_of_nonneg (by linarith), max_eq_right (by linarith)]
  have far : ∀ k : ℕ, k ≠ lo t → k ≠ lo t + 1 → tent t k = 0 := by
    intro k h h'
    apply tent_far
    rcases lt_or_gt_of_ne h with hk | hk
    · have : (k : ℝ) + 1 ≤ (lo t : ℝ) := by exact_mod_cast hk
      rw [abs_of_nonneg (by linarith)]; linarith
    · have : (lo t : ℝ) + 2 ≤ (k : ℝ) := by exact_mod_cast (by omega : lo t + 2 ≤ k)
      rw [abs_of_nonpos (by linarith)]; linarith
  rcases Nat.lt_or_ge (lo t) n with hc | hc
  · have whi : tent t ((lo t + 1 : ℕ) : ℝ) = fr t := by
      unfold tent fr
      push_cast
      rw [abs_of_nonpos (by linarith), max_eq_right (by linarith)]; ring
    have hmin : min (lo t + 1) n = lo t + 1 := by omega
    rw [Fintype.sum_eq_add (⟨lo t, hn⟩ : Fin (n + 1)) ⟨lo t + 1, by omega⟩ (by simp [Fin.ext_iff])]
    · simp only [wlo, whi, hmin]
    · intro k ⟨hk, hk'⟩
      rw [far k (fun e => hk (Fin.ext e)) (fun e => hk' (Fin.ext e)), EReal.coe_zero, zero_mul]
  · have e : lo t = n := by omega
    have hz : fr t = 0 := by
      unfold fr; rw [e] at hlo ⊢; linarith
    rw [Fintype.sum_eq_single (⟨lo t, hn⟩ : Fin (n + 1))]
    · simp only [wlo, hz, EReal.coe_zero, zero_mul, add_zero]
    · intro k hk
      rw [far k (fun e => hk (Fin.ext e)) (by omega), EReal.coe_zero, zero_mul]

/-- A finite weight that is not negative distributes over a sum. -/
theorem distrib {w : ℝ} (hw : 0 ≤ w) (a b : EReal) : (w : EReal) * (a + b) = (w : EReal) * a + (w : EReal) * b :=
  EReal.left_distrib_of_nonneg_of_ne_top (EReal.coe_nonneg.2 hw) (EReal.coe_ne_top w) a b

/-- The eight corners of a cell, each with the product of its three weights, are the interpolation along one axis after
    the other (last axis first). -/
theorem corners {z y x : ℝ} (hz : 0 ≤ z) (hy : 0 ≤ y) (hx : 0 ≤ x)
    (q000 q001 q010 q011 q100 q101 q110 q111 : EReal) :
    ((1 - fr z : ℝ) : EReal) * (((1 - fr x : ℝ) : EReal) * (((1 - fr y : ℝ) : EReal) * q000 + ((fr y : ℝ) : EReal) * q010)
        + ((fr x : ℝ) : EReal) * (((1 - fr y : ℝ) : EReal) * q001 + ((fr y : ℝ) : EReal) * q011))
      + ((fr z : ℝ) : EReal) * (((1 - fr x : ℝ) : EReal) * (((1 - fr y : ℝ) : EReal) * q100 + ((fr y : ℝ) : EReal) * q110)
        + ((fr x : ℝ) : EReal) * (((1 - fr y : ℝ) : EReal) * q101 + ((fr y : ℝ) : EReal) * q111))
    = 0 + ((1 - fr z : ℝ) : EReal) * ((1 - fr y : ℝ) : EReal) * ((1 - fr x : ℝ) : EReal) * q000
        + ((1 - fr z : ℝ) : EReal) * ((1 - fr y : ℝ) : EReal) * ((fr x : ℝ) : EReal) * q001
        + ((1 - fr z : ℝ) : EReal) * ((fr y : ℝ) : EReal) * ((1 - fr x : ℝ) : EReal) * q010
        + ((1 - fr z : ℝ) : EReal) * ((fr y : ℝ) : EReal) * ((fr x : ℝ) : EReal) * q011
        + ((fr z : ℝ) : EReal) * ((1 - fr y : ℝ) : EReal) * ((1 - fr x : ℝ) : EReal) * q100
        + ((fr z : ℝ) : EReal) * ((1 - fr y : ℝ) : EReal) * ((fr x : ℝ) : EReal) * q101
        + ((fr z : ℝ) : EReal) * ((fr y : ℝ) : EReal) * ((1 - fr x : ℝ) : EReal) * q110
        + ((fr z : ℝ) : EReal) * ((fr y : ℝ) : EReal) * ((fr x : ℝ) : EReal) * q111 := by
  have hz' := fr_nonneg hz
  have hx' := fr_nonneg hx
  have hy' := fr_nonneg hy
  simp only [distrib (fr_le z), distrib hz', distrib (fr_le x), distrib hx', distrib (fr_le y), distrib hy', zero_add]
  ac_rfl

/-- An image `q` sampled at row position `a` and column position `b` with tent weights over all its pixels. -/
def sample (a b : ℝ) (q : Fin 256 → Fin 256 → EReal) : EReal :=
  ∑ k : Fin 256, (∑ y : Fin 256, ((tent a (y : ℕ) : ℝ) : EReal) * q y k) * ((tent b (k : ℕ) : ℝ) : EReal)

/-- Eight images `Q` sampled at `a`, `b` and mixed with tent weights at the position `t` on the curve. -/
def curveVal (t a b : ℝ) (Q : Fin 8 → Fin 256 → Fin 256 → EReal) : EReal :=
  ∑ z : Fin 8, ((tent t (z : ℕ) : ℝ) : EReal) * sample a b (Q z)

/-- From position 3 on the first three images have weight zero. -/
theorem curveVal_five {t : ℝ} (h : 3 ≤ t) (a b : ℝ) (Q : Fin 8 → Fin 256 → Fin 256 → EReal) :
    curveVal t a b Q = ((tent t 3 : ℝ) : EReal) * sample a b (Q 3) + ((tent t 4 : ℝ) : EReal) * sample a b (Q 4)
      + ((tent t 5 : ℝ) : EReal) * sample a b (Q 5) + ((tent t 6 : ℝ) : EReal) * sample a b (Q 6)
      + ((tent t 7 : ℝ) : EReal) * sample a b (Q 7) := by
  have z0 : tent t ((0 : Fin 8) : ℕ) = 0 := tent_far (by rw [abs_of_nonneg] <;> simp <;> linarith)
  have z1 : tent t ((1 : Fin 8) : ℕ) = 0 := tent_far (by rw [abs_of_nonneg] <;> simp <;> linarith)
  have z2 : tent t ((2 : Fin 8) : ℕ) = 0 := tent_far (by rw [abs_of_nonneg] <;> simp <;> linarith)
  unfold curveVal
  rw [Fin.sum_univ_eight, z0, z1, z2, EReal.coe_zero, zero_mul, zero_mul, zero_mul, zero_add, zero_add, zero_add]
  simp

/-- The lower of the two grid points around a position, as an index. -/
def loF (n : ℕ) (t : ℝ) (h : t ≤ (n : ℝ)) : Fin (n + 1) := ⟨lo t, lo_lt h⟩
/-- The upper one, kept inside the grid. -/
def hiF (n : ℕ) (t : ℝ) : Fin (n + 1) := ⟨min (lo t + 1) n, by omega⟩

/-- An image sampled with tent weights is the interpolation between four pixels. -/
theorem sample_eq {a b : ℝ} (ha : 0 ≤ a) (ha' : a ≤ (255 : ℕ)) (hb : 0 ≤ b) (hb' : b ≤ (255 : ℕ)) (q : Fin 256 → Fin 256 → EReal) :
    sample a b q
      = ((1 - fr b : ℝ) : EReal) * (((1 - fr a : ℝ) : EReal) * q (loF 255 a ha') (loF 255 b hb') + ((fr a : ℝ) : EReal) * q (hiF 255 a) (loF 255 b hb'))
        + ((fr b : ℝ) : EReal) * (((1 - fr a : ℝ) : EReal) * q (loF 255 a ha') (hiF 255 b) + ((fr a : ℝ) : EReal) * q (hiF 255 a) (hiF 255 b)) := by
  have inner : ∀ k, ∑ y : Fin 256, ((tent a (y : ℕ) : ℝ) : EReal) * q y k
      = ((1 - fr a : ℝ) : EReal) * q (loF 255 a ha') k + ((fr a : ℝ) : EReal) * q (hiF 255 a) k :=
    fun k => sum_tent 255 a ha ha' fun y => q y k
  unfold sample
  simp only [inner, mul_comm _ (((tent b _ : ℝ) : EReal))]
  exact sum_tent 255 b hb hb' fun k => ((1 - fr a : ℝ) : EReal) * q (loF 255 a ha') k + ((fr a : ℝ) : EReal) * q (hiF 255 a) k

/-- The curve's value is the sum over the eight corners of the cell around the position. -/
theorem curveVal_corners {t a b : ℝ} (ht : 0 ≤ t) (ht' : t ≤ (7 : ℕ)) (ha : 0 ≤ a) (ha' : a ≤ (255 : ℕ)) (hb : 0 ≤ b) (hb' : b ≤ (255 : ℕ))
    (Q : Fin 8 → Fin 256 → Fin 256 → EReal) :
    curveVal t a b Q
      = 0 + ((1 - fr t : ℝ) : EReal) * ((1 - fr a : ℝ) : EReal) * ((1 - fr b : ℝ) : EReal) * Q (loF 7 t ht') (loF 255 a ha') (loF 255 b hb')
        + ((1 - fr t : ℝ) : EReal) * ((1 - fr a : ℝ) : EReal) * ((fr b : ℝ) : EReal) * Q (loF 7 t ht') (loF 255 a ha') (hiF 255 b)
        + ((1 - fr t : ℝ) : EReal) * ((fr a : ℝ) : EReal) * ((1 - fr b : ℝ) : EReal) * Q (loF 7 t ht') (hiF 255 a) (loF 255 b hb')
        + ((1 - fr t : ℝ) : EReal) * ((fr a : ℝ) : EReal) * ((fr b : ℝ) : EReal) * Q (loF 7 t ht') (hiF 255 a) (hiF 255 b)
        + ((fr t : ℝ) : EReal) * ((1 - fr a : ℝ) : EReal) * ((1 - fr b : ℝ) : EReal) * Q (hiF 7 t) (loF 255 a ha') (loF 255 b hb')
        + ((fr t : ℝ) : EReal) * ((1 - fr a : ℝ) : EReal) * ((fr b : ℝ) : EReal) * Q (hiF 7 t) (loF 255 a ha') (hiF 255 b)
        + ((fr t : ℝ) : EReal) * ((fr a : ℝ) : EReal) * ((1 - fr b : ℝ) : EReal) * Q (hiF 7 t) (hiF 255 a) (loF 255 b hb')
        + ((fr t : ℝ) : EReal) * ((fr a : ℝ) : EReal) * ((fr b : ℝ) : EReal) * Q (hiF 7 t) (hiF 255 a) (hiF 255 b) := by
  refine ((sum_tent 7 t ht ht' fun z => sample a b (Q z)).trans ?_).trans (corners ht ha hb _ _ _ _ _ _ _ _)
  simp only [sample_eq ha ha' hb hb']
  rfl

/-- The position on the curve of an image value: `(x + 1) · 7/2` clipped to `[0, 7]`. -/
def zPos (x : EReal) : EReal := min ((7 : ℝ) : EReal) (max 0 ((x + 1) * ((7 / 2 : ℝ) : EReal)))

/-- The same as a real number. -/
def zReal (x : EReal) : ℝ := (zPos x).toReal

/-- For an image value that is not negative (infinite allowed) the position is a real number between 3 and 7. -/
theorem zPos_eq {x : EReal} (h : 0 ≤ x) : zPos x = ((zReal x : ℝ) : EReal) ∧ 3 ≤ zReal x ∧ zReal x ≤ (7 : ℕ) := by
  have h1 : (1 : EReal) ≤ x + 1 := by simpa using add_le_add_left h 1
  have h3 : ((7 / 2 : ℝ) : EReal) ≤ (x + 1) * ((7 / 2 : ℝ) : EReal) := by
    simpa using mul_le_mul_of_nonneg_right h1 (EReal.coe_nonneg.2 (by norm_num : (0 : ℝ) ≤ 7 / 2))
  have lo3 : ((3 : ℝ) : EReal) ≤ zPos x :=
    le_min (EReal.coe_le_coe_iff.2 (by norm_num)) (le_max_of_le_right ((EReal.coe_le_coe_iff.2 (by norm_num)).trans h3))
  have hi7 : zPos x ≤ ((7 : ℝ) : EReal) := min_le_left _ _
  have hc : zPos x = ((zReal x : ℝ) : EReal) :=
    (EReal.coe_toReal (ne_top_of_le_ne_top (EReal.coe_ne_top 7) hi7) (ne_bot_of_le_ne_bot (EReal.coe_ne_bot 3) lo3)).symm
  rw [hc] at lo3 hi7
  exact ⟨hc, EReal.coe_le_coe_iff.1 lo3, by simpa using EReal.coe_le_coe_iff.1 hi7⟩

/-- The row and column positions of the 1024 grid coordinates lie inside the image. -/
theorem pos_nonneg (w : ℕ) : (0 : ℝ) ≤ 255 * w / 1023 := by positivity
theorem pos_le {w : ℕ} (h : w < 1024) : (255 * w / 1023 : ℝ) ≤ (255 : ℕ) := by
  have hw : (w : ℝ) ≤ 1023 := by exact_mod_cast (by omega : w ≤ 1023)
  rw [div_le_iff₀ (by norm_num)]; push_cast; linarith

end Cert.Weights
-- ==== Proof.BodyVal.lean ====
/-
  The body's accumulators read at an index: with tent rows and columns in the two matrices, each chunk adds the curve's
  value at the position of the image value, and so the accumulator of a colour channel is the sum of three such values.
-/
module

public import proofs.«01_k».proof.Proof.Body
public import proofs.«01_k».proof.Proof.Consts
public import proofs.«01_k».proof.Proof.Weights
public import Idealize.ShloMosaic.Lib.Pipeline.ValueKit

@[expose] public section

set_option maxRecDepth 16384

noncomputable section

namespace Cert.KernelIdeal.Body

open Idealize.ShloMosaic Idealize.ShloMosaic.TcCoe Idealize.SL.Sem
open Cert.KernelIdeal Cert.KernelIdeal.Gen

/-- The position on the curve at an index. -/
theorem zPos_at (X : Vec Ideal S1x1x256x1024 .f32) (r : Fin 256) (w : Fin 1024) :
    zPos (F := Ideal) X (ix2 r w) = Weights.zPos (X (ix4 0 0 r w)) := by
  pointwise [zPos, Weights.zPos, Consts.seven, Consts.three_half]

/-- The weight of a control point at an index. -/
theorem zWeight_at (iz : FVec Ideal S256x1024 .f32) (z : BitVec 32) (k t : ℝ) (hz : Ideal.ofBits .f32 z = ((k : ℝ) : EReal))
    (r : Fin 256) (w : Fin 1024) (ht : iz (ix2 r w) = ((t : ℝ) : EReal)) :
    zWeight (F := Ideal) iz z (ix2 r w) = ((Weights.tent t k : ℝ) : EReal) := by
  rw [← Weights.tent_coe]
  pointwise [zWeight]
  rw [ht, hz, Consts.absf_eq]

/-- A resized control image at an index: the image sampled at the positions whose tent weights the matrices hold. -/
theorem resized_at (A : FVec Ideal S256x256 .f32) (B : FVec Ideal S256x1024 .f32) (P : Vec Ideal S1x1x256x256 .f32)
    (r : Fin 256) (w : Fin 1024) (a b : ℝ) (q : Fin 256 → Fin 256 → EReal)
    (hA : ∀ y : Fin 256, A (ix2 r y) = ((Weights.tent a (y : ℕ) : ℝ) : EReal))
    (hB : ∀ k : Fin 256, B (ix2 k w) = ((Weights.tent b (k : ℕ) : ℝ) : EReal))
    (hP : ∀ y k, P (ix4 0 0 y k) = q y k) :
    resized (F := Ideal) A B P (ix2 r w) = Weights.sample a b q := by
  pointwise [resized, Weights.sample, hA, hB, hP]

/-- One chunk adds the curve's value. -/
theorem chunk_at (A : FVec Ideal S256x256 .f32) (B : FVec Ideal S256x1024 .f32) (iz acc : FVec Ideal S256x1024 .f32)
    (P3 P4 P5 P6 P7 : Vec Ideal S1x1x256x256 .f32) (r : Fin 256) (w : Fin 1024) (a b t : ℝ) (Q : Fin 8 → Fin 256 → Fin 256 → EReal)
    (hA : ∀ y : Fin 256, A (ix2 r y) = ((Weights.tent a (y : ℕ) : ℝ) : EReal))
    (hB : ∀ k : Fin 256, B (ix2 k w) = ((Weights.tent b (k : ℕ) : ℝ) : EReal))
    (ht : iz (ix2 r w) = ((t : ℝ) : EReal)) (h3 : 3 ≤ t)
    (hP3 : ∀ y k, P3 (ix4 0 0 y k) = Q 3 y k) (hP4 : ∀ y k, P4 (ix4 0 0 y k) = Q 4 y k) (hP5 : ∀ y k, P5 (ix4 0 0 y k) = Q 5 y k)
    (hP6 : ∀ y k, P6 (ix4 0 0 y k) = Q 6 y k) (hP7 : ∀ y k, P7 (ix4 0 0 y k) = Q 7 y k) :
    chunk (F := Ideal) A B iz acc P3 P4 P5 P6 P7 (ix2 r w) = (show EReal from acc (ix2 r w)) + Weights.curveVal t a b Q := by
  rw [Weights.curveVal_five h3, ← resized_at A B P3 r w a b _ hA hB hP3, ← resized_at A B P4 r w a b _ hA hB hP4,
    ← resized_at A B P5 r w a b _ hA hB hP5, ← resized_at A B P6 r w a b _ hA hB hP6, ← resized_at A B P7 r w a b _ hA hB hP7,
    ← zWeight_at iz _ 3 t Consts.three r w ht, ← zWeight_at iz _ 4 t Consts.four r w ht, ← zWeight_at iz _ 5 t Consts.five r w ht,
    ← zWeight_at iz _ 6 t Consts.six r w ht, ← zWeight_at iz _ 7 t Consts.seven r w ht]
  simp only [← add_assoc]
  rfl

/-- The row matrix's block at an index. -/
theorem rowM_at (x0 : Vec Ideal S256x256 .f32) (r y : Fin 256) : rowM (F := Ideal) x0 (ix2 r y) = x0 (ix2 r y) := by
  pointwise [rowM]
  blk_ext

/-- The column matrix at an index. -/
theorem colM_at (x1 : Vec Ideal S256x1024 .f32) (k : Fin 256) (w : Fin 1024) : colM (F := Ideal) x1 (ix2 k w) = x1 (ix2 k w) := by
  pointwise [colM]
  blk_ext

/-- The accumulator of colour channel 0 at an index: the three chunks' curve values. -/
theorem acc0_at (x0 : Vec Ideal S256x256 .f32) (x1 : Vec Ideal S256x1024 .f32) (x2 : Vec Ideal S1x3x256x1024 .f32) (x3 : Vec Ideal S1x72x256x256 .f32)
    (r : Fin 256) (w : Fin 1024) (a b : ℝ) (t : Fin 3 → ℝ) (Q : Fin 3 → Fin 8 → Fin 256 → Fin 256 → EReal)
    (hA : ∀ y : Fin 256, x0 (ix2 r y) = ((Weights.tent a (y : ℕ) : ℝ) : EReal))
    (hB : ∀ k : Fin 256, x1 (ix2 k w) = ((Weights.tent b (k : ℕ) : ℝ) : EReal))
    (ht : ∀ i : Fin 3, Weights.zPos (x2 (ix4 0 i r w)) = ((t i : ℝ) : EReal)) (h3 : ∀ i, 3 ≤ t i)
    (hP : ∀ (i : Fin 3) (z : Fin 8) (n : Fin 72) (y k : Fin 256), (n : ℕ) = 0 + (i : ℕ) * 8 + (z : ℕ) → x3 (ix4 0 n y k) = Q i z y k) :
    acc0 (F := Ideal) x0 x1 x2 x3 (ix2 r w)
      = 0 + Weights.curveVal (t 0) a b (Q 0) + Weights.curveVal (t 1) a b (Q 1) + Weights.curveVal (t 2) a b (Q 2) := by
  have hA' := fun y => (rowM_at x0 r y).trans (hA y)
  have hB' := fun k => (colM_at x1 k w).trans (hB k)
  unfold acc0
  refine (chunk_at _ _ _ _ _ _ _ _ _ r w a b (t 2) (Q 2) hA' hB' ((zPos_at _ r w).trans (Eq.trans ?_ (ht 2))) (h3 2) ?_ ?_ ?_ ?_ ?_).trans ?_
  · pointwise
  · intro y k; pointwise; exact hP 2 3 ⟨19, by omega⟩ y k rfl
  · intro y k; pointwise; exact hP 2 4 ⟨20, by omega⟩ y k rfl
  · intro y k; pointwise; exact hP 2 5 ⟨21, by omega⟩ y k rfl
  · intro y k; pointwise; exact hP 2 6 ⟨22, by omega⟩ y k rfl
  · intro y k; pointwise; exact hP 2 7 ⟨23, by omega⟩ y k rfl
  refine congrArg (· + Weights.curveVal (t 2) a b (Q 2)) ?_
  refine (chunk_at _ _ _ _ _ _ _ _ _ r w a b (t 1) (Q 1) hA' hB' ((zPos_at _ r w).trans (Eq.trans ?_ (ht 1))) (h3 1) ?_ ?_ ?_ ?_ ?_).trans ?_
  · pointwise
  · intro y k; pointwise; exact hP 1 3 ⟨11, by omega⟩ y k rfl
  · intro y k; pointwise; exact hP 1 4 ⟨12, by omega⟩ y k rfl
  · intro y k; pointwise; exact hP 1 5 ⟨13, by omega⟩ y k rfl
  · intro y k; pointwise; exact hP 1 6 ⟨14, by omega⟩ y k rfl
  · intro y k; pointwise; exact hP 1 7 ⟨15, by omega⟩ y k rfl
  refine congrArg (· + Weights.curveVal (t 1) a b (Q 1)) ?_
  refine (chunk_at _ _ _ _ _ _ _ _ _ r w a b (t 0) (Q 0) hA' hB' ((zPos_at _ r w).trans (Eq.trans ?_ (ht 0))) (h3 0) ?_ ?_ ?_ ?_ ?_).trans ?_
  · pointwise
  · intro y k; pointwise; exact hP 0 3 ⟨3, by omega⟩ y k rfl
  · intro y k; pointwise; exact hP 0 4 ⟨4, by omega⟩ y k rfl
  · intro y k; pointwise; exact hP 0 5 ⟨5, by omega⟩ y k rfl
  · intro y k; pointwise; exact hP 0 6 ⟨6, by omega⟩ y k rfl
  · intro y k; pointwise; exact hP 0 7 ⟨7, by omega⟩ y k rfl
  refine congrArg (· + Weights.curveVal (t 0) a b (Q 0)) ?_
  pointwise

/-- The accumulator of colour channel 1 at an index: the three chunks' curve values. -/
theorem acc1_at (x0 : Vec Ideal S256x256 .f32) (x1 : Vec Ideal S256x1024 .f32) (x2 : Vec Ideal S1x3x256x1024 .f32) (x3 : Vec Ideal S1x72x256x256 .f32)
    (r : Fin 256) (w : Fin 1024) (a b : ℝ) (t : Fin 3 → ℝ) (Q : Fin 3 → Fin 8 → Fin 256 → Fin 256 → EReal)
    (hA : ∀ y : Fin 256, x0 (ix2 r y) = ((Weights.tent a (y : ℕ) : ℝ) : EReal))
    (hB : ∀ k : Fin 256, x1 (ix2 k w) = ((Weights.tent b (k : ℕ) : ℝ) : EReal))
    (ht : ∀ i : Fin 3, Weights.zPos (x2 (ix4 0 i r w)) = ((t i : ℝ) : EReal)) (h3 : ∀ i, 3 ≤ t i)
    (hP : ∀ (i : Fin 3) (z : Fin 8) (n : Fin 72) (y k : Fin 256), (n : ℕ) = 24 + (i : ℕ) * 8 + (z : ℕ) → x3 (ix4 0 n y k) = Q i z y k) :
    acc1 (F := Ideal) x0 x1 x2 x3 (ix2 r w)
      = 0 + Weights.curveVal (t 0) a b (Q 0) + Weights.curveVal (t 1) a b (Q 1) + Weights.curveVal (t 2) a b (Q 2) := by
  have hA' := fun y => (rowM_at x0 r y).trans (hA y)
  have hB' := fun k => (colM_at x1 k w).trans (hB k)
  unfold acc1
  refine (chunk_at _ _ _ _ _ _ _ _ _ r w a b (t 2) (Q 2) hA' hB' ((zPos_at _ r w).trans (Eq.trans ?_ (ht 2))) (h3 2) ?_ ?_ ?_ ?_ ?_).trans ?_
  · pointwise
  · intro y k; pointwise; exact hP 2 3 ⟨43, by omega⟩ y k rfl
  · intro y k; pointwise; exact hP 2 4 ⟨44, by omega⟩ y k rfl
  · intro y k; pointwise; exact hP 2 5 ⟨45, by omega⟩ y k rfl
  · intro y k; pointwise; exact hP 2 6 ⟨46, by omega⟩ y k rfl
  · intro y k; pointwise; exact hP 2 7 ⟨47, by omega⟩ y k rfl
  refine congrArg (· + Weights.curveVal (t 2) a b (Q 2)) ?_
  refine (chunk_at _ _ _ _ _ _ _ _ _ r w a b (t 1) (Q 1) hA' hB' ((zPos_at _ r w).trans (Eq.trans ?_ (ht 1))) (h3 1) ?_ ?_ ?_ ?_ ?_).trans ?_
  · pointwise
  · intro y k; pointwise; exact hP 1 3 ⟨35, by omega⟩ y k rfl
  · intro y k; pointwise; exact hP 1 4 ⟨36, by omega⟩ y k rfl
  · intro y k; pointwise; exact hP 1 5 ⟨37, by omega⟩ y k rfl
  · intro y k; pointwise; exact hP 1 6 ⟨38, by omega⟩ y k rfl
  · intro y k; pointwise; exact hP 1 7 ⟨39, by omega⟩ y k rfl
  refine congrArg (· + Weights.curveVal (t 1) a b (Q 1)) ?_
  refine (chunk_at _ _ _ _ _ _ _ _ _ r w a b (t 0) (Q 0) hA' hB' ((zPos_at _ r w).trans (Eq.trans ?_ (ht 0))) (h3 0) ?_ ?_ ?_ ?_ ?_).trans ?_
  · pointwise
  · intro y k; pointwise; exact hP 0 3 ⟨27, by omega⟩ y k rfl
  · intro y k; pointwise; exact hP 0 4 ⟨28, by omega⟩ y k rfl
  · intro y k; pointwise; exact hP 0 5 ⟨29, by omega⟩ y k rfl
  · intro y k; pointwise; exact hP 0 6 ⟨30, by omega⟩ y k rfl
  · intro y k; pointwise; exact hP 0 7 ⟨31, by omega⟩ y k rfl
  refine congrArg (· + Weights.curveVal (t 0) a b (Q 0)) ?_
  pointwise

/-- The accumulator of colour channel 2 at an index: the three chunks' curve values. -/
theorem acc2_at (x0 : Vec Ideal S256x256 .f32) (x1 : Vec Ideal S256x1024 .f32) (x2 : Vec Ideal S1x3x256x1024 .f32) (x3 : Vec Ideal S1x72x256x256 .f32)
    (r : Fin 256) (w : Fin 1024) (a b : ℝ) (t : Fin 3 → ℝ) (Q : Fin 3 → Fin 8 → Fin 256 → Fin 256 → EReal)
    (hA : ∀ y : Fin 256, x0 (ix2 r y) = ((Weights.tent a (y : ℕ) : ℝ) : EReal))
    (hB : ∀ k : Fin 256, x1 (ix2 k w) = ((Weights.tent b (k : ℕ) : ℝ) : EReal))
    (ht : ∀ i : Fin 3, Weights.zPos (x2 (ix4 0 i r w)) = ((t i : ℝ) : EReal)) (h3 : ∀ i, 3 ≤ t i)
    (hP : ∀ (i : Fin 3) (z : Fin 8) (n : Fin 72) (y k : Fin 256), (n : ℕ) = 48 + (i : ℕ) * 8 + (z : ℕ) → x3 (ix4 0 n y k) = Q i z y k) :
    acc2 (F := Ideal) x0 x1 x2 x3 (ix2 r w)
      = 0 + Weights.curveVal (t 0) a b (Q 0) + Weights.curveVal (t 1) a b (Q 1) + Weights.curveVal (t 2) a b (Q 2) := by
  have hA' := fun y => (rowM_at x0 r y).trans (hA y)
  have hB' := fun k => (colM_at x1 k w).trans (hB k)
  unfold acc2
  refine (chunk_at _ _ _ _ _ _ _ _ _ r w a b (t 2) (Q 2) hA' hB' ((zPos_at _ r w).trans (Eq.trans ?_ (ht 2))) (h3 2) ?_ ?_ ?_ ?_ ?_).trans ?_
  · pointwise
  · intro y k; pointwise; exact hP 2 3 ⟨67, by omega⟩ y k rfl
  · intro y k; pointwise; exact hP 2 4 ⟨68, by omega⟩ y k rfl
  · intro y k; pointwise; exact hP 2 5 ⟨69, by omega⟩ y k rfl
  · intro y k; pointwise; exact hP 2 6 ⟨70, by omega⟩ y k rfl
  · intro y k; pointwise; exact hP 2 7 ⟨71, by omega⟩ y k rfl
  refine congrArg (· + Weights.curveVal (t 2) a b (Q 2)) ?_
  refine (chunk_at _ _ _ _ _ _ _ _ _ r w a b (t 1) (Q 1) hA' hB' ((zPos_at _ r w).trans (Eq.trans ?_ (ht 1))) (h3 1) ?_ ?_ ?_ ?_ ?_).trans ?_
  · pointwise
  · intro y k; pointwise; exact hP 1 3 ⟨59, by omega⟩ y k rfl
  · intro y k; pointwise; exact hP 1 4 ⟨60, by omega⟩ y k rfl
  · intro y k; pointwise; exact hP 1 5 ⟨61, by omega⟩ y k rfl
  · intro y k; pointwise; exact hP 1 6 ⟨62, by omega⟩ y k rfl
  · intro y k; pointwise; exact hP 1 7 ⟨63, by omega⟩ y k rfl
  refine congrArg (· + Weights.curveVal (t 1) a b (Q 1)) ?_
  refine (chunk_at _ _ _ _ _ _ _ _ _ r w a b (t 0) (Q 0) hA' hB' ((zPos_at _ r w).trans (Eq.trans ?_ (ht 0))) (h3 0) ?_ ?_ ?_ ?_ ?_).trans ?_
  · pointwise
  · intro y k; pointwise; exact hP 0 3 ⟨51, by omega⟩ y k rfl
  · intro y k; pointwise; exact hP 0 4 ⟨52, by omega⟩ y k rfl
  · intro y k; pointwise; exact hP 0 5 ⟨53, by omega⟩ y k rfl
  · intro y k; pointwise; exact hP 0 6 ⟨54, by omega⟩ y k rfl
  · intro y k; pointwise; exact hP 0 7 ⟨55, by omega⟩ y k rfl
  refine congrArg (· + Weights.curveVal (t 0) a b (Q 0)) ?_
  pointwise

end Cert.KernelIdeal.Body
-- ==== Proof.Prefix.lean ====
/-
  The host operations before the kernel: the grid coordinates, their pixel positions, and the tent matrix over them, in
  this file's own words; the arrays the kernel's first two windows read are that matrix and its transpose.  Read at an
  index the matrix holds the tent weight of pixel `k` for the position `255 h / 1023`.
-/
module
public import proofs.«01_k».proof.Proof.Gen.KernelIdeal.Frame
public import proofs.«01_k».proof.Proof.Consts
public import proofs.«01_k».proof.Proof.Weights
public import Idealize.ShloMosaic.Lib.Pointwise
@[expose] public section
set_option maxRecDepth 16384
noncomputable section
namespace Cert.KernelIdeal.Prefix
open Idealize.ShloMosaic Idealize.ShloMosaic.TcCoe Idealize.SL.Sem
open Cert.KernelIdeal Cert.KernelIdeal.Gen
variable {F : FTy → Type} [FloatOps F]
/-- The 1024 grid coordinates from -1 to 1. -/
def grid : FVec F S1024 .f32 :=
  concatenate S1024 0 [⟨S1023, addf
      (mulf (broadcastInDim S1023 ![0] bcast_S1_S1023_0 (shapeCast S1 (constant S_ .f32 0xBF800000#32) shapeCasts_S_S1))
        (subf (broadcastInDim S1023 ![] bcast_S_S1023 (constant S_ .f32 0x3F800000#32))
          (Host.divf (sitofp .f32 (iotaInDim S1023 32 0)) (broadcastInDim S1023 ![] bcast_S_S1023 (constant S_ .f32 0x447FC000#32)))))
      (mulf (broadcastInDim S1023 ![0] bcast_S1_S1023_0 (shapeCast S1 (constant S_ .f32 0x3F800000#32) shapeCasts_S_S1))
        (Host.divf (sitofp .f32 (iotaInDim S1023 32 0)) (broadcastInDim S1023 ![] bcast_S_S1023 (constant S_ .f32 0x447FC000#32))))⟩,
    ⟨S1, broadcastInDim S1 ![] bcast_S_S1 (constant S_ .f32 0x3F800000#32)⟩] concatenates_S1023_S1_S1024_d0

/-- The pixel positions of the grid coordinates in an image 256 wide, clipped to it. -/
def pos : FVec F S1024 .f32 :=
  minimumf (broadcastInDim S1024 ![] bcast_S_S1024 (sitofp .f32 (constantI S_ 32 255#32)))
    (maximumf (broadcastInDim S1024 ![] bcast_S_S1024 (constant S_ .f32 0x00000000#32))
      (mulf (mulf (addf grid (broadcastInDim S1024 ![] bcast_S_S1024 (constant S_ .f32 0x3F800000#32)))
        (broadcastInDim S1024 ![] bcast_S_S1024 (constant S_ .f32 0x3F000000#32))) (broadcastInDim S1024 ![] bcast_S_S1024 (constant S_ .f32 0x437F0000#32))))

/-- The tent weights of all 256 pixels for each of the 1024 positions. -/
def tentM : FVec F S1024x256 .f32 :=
  maximumf (broadcastInDim S1024x256 ![] bcast_S_S1024x256 (constant S_ .f32 0x00000000#32))
    (subf (broadcastInDim S1024x256 ![] bcast_S_S1024x256 (constant S_ .f32 0x3F800000#32))
      (Host.absf (subf
        (broadcastInDim S1024x256 ![0, 1] bcast_S1024x1_S1024x256_0_1 (broadcastInDim S1024x1 ![0] bcast_S1024_S1024x1_0 pos))
        (broadcastInDim S1024x256 ![0, 1] bcast_S1x256_S1024x256_0_1 (broadcastInDim S1x256 ![1] bcast_S256_S1x256_1 (sitofp .f32 (iotaInDim S256 32 0)))))))

set_option maxHeartbeats 2000000 in
/-- The first window's array at the kernel's entry is the tent matrix. -/
theorem v18 (m : (ℓ : Loc nD τ sig) → Buf (Elt F) ℓ) (c : Dev nD) : (V m c main_call0_v18 : FVec F S1024x256 .f32) = tentM := by
  entry_read
  rfl

set_option maxHeartbeats 2000000 in
/-- The second window's array at the kernel's entry is its transpose. -/
theorem v38 (m : (ℓ : Loc nD τ sig) → Buf (Elt F) ℓ) (c : Dev nD) : (V m c main_call0_v38 : FVec F S256x1024 .f32) = transpose S256x1024 [1, 0] tentM transposes_S1024x256_S256x1024_1_0 := by
  entry_read
  rfl

/-- Grid coordinate number `w` is `2 w / 1023 - 1`. -/
theorem grid_at (w : Fin 1024) : grid (F := Ideal) (ix1 w) = ((2 * (w : ℕ) / 1023 - 1 : ℝ) : EReal) := by
  refine Consts.lin_at w w.isLt _ ?_
  pointwise [grid]
  by_cases h : (w : ℕ) < 1023
  · simp only [ix1_0, dif_pos h, if_pos h, Consts.ofNat_sitofp _ (show (w : ℕ) < 2 ^ 31 by omega), Consts.neg_one, Consts.c1023]
  · simp only [ix1_0, dif_neg h, if_neg h]

/-- The tent matrix at `(h, k)` is the tent weight of pixel `k` for the position `255 h / 1023`. -/
theorem tentM_at (h : Fin 1024) (k : Fin 256) :
    tentM (F := Ideal) (ix2 h k) = ((Weights.tent (255 * (h : ℕ) / 1023) (k : ℕ) : ℝ) : EReal) := by
  pointwise [tentM, pos, Consts.half, Consts.c255]
  rw [Consts.int255, Consts.ofNat_sitofp _ (show (k : ℕ) < 2 ^ 31 by omega), Consts.pos_at h h.isLt _ (grid_at h), Consts.absf_eq,
    Weights.tent_coe]

/-- Its transpose. -/
theorem tentT_at (k : Fin 256) (w : Fin 1024) :
    transpose S256x1024 [1, 0] (tentM (F := Ideal)) transposes_S1024x256_S256x1024_1_0 (ix2 k w)
      = ((Weights.tent (255 * (w : ℕ) / 1023) (k : ℕ) : ℝ) : EReal) := by
  pointwise
  exact tentM_at w k

end Cert.KernelIdeal.Prefix
-- ==== Proof.Spec.lean ====
/-
  The function both programs compute, on extended reals: for each image value the sum of three curves, each a control
  volume of eight images sampled at the value's position on the curve and at the pixel's position in the image, and the
  hyperbolic tangent of it.
-/
module

public import proofs.«01_k».proof.Proof.Weights

@[expose] public section

noncomputable section

open Idealize.ShloMosaic

namespace Cert.Spec

/-- The image batch's shape. -/
abbrev SX : Shape := ⟨4, ![4, 3, 1024, 1024]⟩
/-- The control images' shape. -/
abbrev SP : Shape := ⟨4, ![4, 72, 256, 256]⟩

/-- Curve `i` of output channel `c` at pixel `(h, w)` of image `b`. -/
def curve (X : SX.Idx → EReal) (P : SP.Idx → EReal) (b : Fin 4) (c i : Fin 3) (h w : Fin 1024) : EReal :=
  Weights.curveVal (Weights.zReal (X (ix4 b i h w))) (255 * (h : ℕ) / 1023) (255 * (w : ℕ) / 1023)
    (fun z y k => P (ix4 b ⟨24 * (c : ℕ) + (i : ℕ) * 8 + (z : ℕ), by omega⟩ y k))

/-- The result at output channel `c`, pixel `(h, w)` of image `b`. -/
def tone (X : SX.Idx → EReal) (P : SP.Idx → EReal) (b : Fin 4) (c : Fin 3) (h w : Fin 1024) : EReal :=
  Ideal.tanh (0 + curve X P b c 0 h w + curve X P b c 1 h w + curve X P b c 2 h w)

end Cert.Spec
-- ==== Proof.KernelArray.lean ====
/-
  The kernel's result array: every grid point writes its own block, and what it writes at a block index is the tone
  function at the array index; so the array after the run is the tone function of the two arguments.
-/
module

public import proofs.«01_k».proof.Proof.BodyVal
public import proofs.«01_k».proof.Proof.Prefix
public import proofs.«01_k».proof.Proof.Spec
public import proofs.«01_k».proof.Proof.Gen.KernelIdeal.Value
public import Idealize.ShloMosaic.Lib.Pipeline.ValueKit

@[expose] public section

set_option maxRecDepth 16384

noncomputable section

namespace Cert.KernelIdeal.Array

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The index maps of the five windows at every grid point. -/
theorem idx_val : ∀ t : Fin cfg0.N, win0_0.index t = ![t.val % 4, 0] ∧ win0_1.index t = ![0, 0]
    ∧ win0_2.index t = ![t.val / 4, 0, t.val % 4, 0] ∧ win0_3.index t = ![t.val / 4, 0, 0, 0]
    ∧ win0_4.index t = ![t.val / 4, 0, t.val % 4, 0] ∧ t.val / 4 < 4 ∧ t.val % 4 < 4 :=
  (by decide +kernel : ∀ t : Fin grid0.N, _)

/-- The image argument. -/
abbrev argX (c : Dev nD) : FVec Ideal S4x3x1024x1024 .f32 := m ((c : Thread nD τ).loc main_arg0)
/-- The control argument. -/
abbrev argP (c : Dev nD) : FVec Ideal S4x72x256x256 .f32 := m ((c : Thread nD τ).loc main_arg1)

/-- The row matrix's block at grid point `t`. -/
theorem blk0 (c : Dev nD) (t : Fin cfg0.N) (r y : Fin 256) :
    (iblk m c 0 t : FVec Ideal S256x256 .f32) (ix2 r y)
      = ((Weights.tent (255 * ((t.val % 4 * 256 + (r : ℕ) : ℕ) : ℝ) / 1023) (y : ℕ) : ℝ) : EReal) := by
  have ht := (idx_val t).2.2.2.2.2.2
  refine Eq.trans ?_ (Prefix.tentM_at ⟨t.val % 4 * 256 + r, by omega⟩ y)
  rw [← Prefix.v18 m c]
  blk_ext [iblk, idx_val t]

/-- The column matrix's block at grid point `t`: the whole matrix. -/
theorem blk1 (c : Dev nD) (t : Fin cfg0.N) (k : Fin 256) (w : Fin 1024) :
    (iblk m c 1 t : FVec Ideal S256x1024 .f32) (ix2 k w)
      = ((Weights.tent (255 * (w : ℕ) / 1023) (k : ℕ) : ℝ) : EReal) := by
  refine Eq.trans ?_ (Prefix.tentT_at k w)
  rw [← Prefix.v38 m c]
  blk_ext [iblk, idx_val t]

/-- The image's block at grid point `t`. -/
theorem blk2 (c : Dev nD) (t : Fin cfg0.N) (i : Fin 3) (r : Fin 256) (w : Fin 1024) (b : Fin 4) (h : Fin 1024)
    (hb : (b : ℕ) = t.val / 4) (hh : (h : ℕ) = t.val % 4 * 256 + r) :
    (iblk m c 2 t : FVec Ideal S1x3x256x1024 .f32) (ix4 0 i r w) = argX m c (ix4 b i h w) := by
  blk_ext [iblk, V, idx_val t]

/-- The control images' block at grid point `t`. -/
theorem blk3 (c : Dev nD) (t : Fin cfg0.N) (n : Fin 72) (y k : Fin 256) (b : Fin 4) (hb : (b : ℕ) = t.val / 4) :
    (iblk m c 3 t : FVec Ideal S1x72x256x256 .f32) (ix4 0 n y k) = argP m c (ix4 b n y k) := by
  blk_ext [iblk, V, idx_val t]

/-- A stored block at an index. -/
theorem stored_at (acc : FVec Ideal S256x1024 .f32) (u v : Fin 1) (r : Fin 256) (w : Fin 1024) :
    Body.stored (F := Ideal) acc (ix4 u v r w) = Ideal.tanh (acc (ix2 r w)) := by
  pointwise [Body.stored]

/-- Channel 0 of the block written at grid point `t`. -/
theorem channel0 (c : Dev nD) (hpos : ∀ j, (0 : EReal) ≤ argX m c j) (t : Fin cfg0.N) (u v : Fin 1) (r : Fin 256) (w : Fin 1024) (b : Fin 4) (h : Fin 1024)
    (hb : (b : ℕ) = t.val / 4) (hh : (h : ℕ) = t.val % 4 * 256 + r) :
    Body.stored (F := Ideal) (Body.acc0 (F := Ideal) (iblk m c 0 t) (iblk m c 1 t) (iblk m c 2 t) (iblk m c 3 t)) (ix4 u v r w)
      = Spec.tone (argX m c) (argP m c) b 0 h w := by
  refine (stored_at _ u v r w).trans (congrArg Ideal.tanh ?_)
  refine Body.acc0_at _ _ _ _ r w (255 * (h : ℕ) / 1023) (255 * (w : ℕ) / 1023) (fun i => Weights.zReal (argX m c (ix4 b i h w)))
    (fun i z y k => argP m c (ix4 b ⟨24 * ((0 : Fin 3) : ℕ) + (i : ℕ) * 8 + (z : ℕ), by omega⟩ y k)) ?_ ?_ ?_ ?_ ?_
  · intro y; rw [hh]; exact blk0 m c t r y
  · intro k; exact blk1 m c t k w
  · intro i
    rw [← (Weights.zPos_eq (hpos _)).1]
    exact congrArg Weights.zPos (blk2 m c t i r w b h hb hh)
  · intro i; exact (Weights.zPos_eq (hpos _)).2.1
  · intro i z n y k hn
    refine (blk3 m c t n y k b hb).trans (congrArg (fun n' => argP m c (ix4 b n' y k)) (Fin.ext ?_))
    simpa using hn

/-- Channel 1 of the block written at grid point `t`. -/
theorem channel1 (c : Dev nD) (hpos : ∀ j, (0 : EReal) ≤ argX m c j) (t : Fin cfg0.N) (u v : Fin 1) (r : Fin 256) (w : Fin 1024) (b : Fin 4) (h : Fin 1024)
    (hb : (b : ℕ) = t.val / 4) (hh : (h : ℕ) = t.val % 4 * 256 + r) :
    Body.stored (F := Ideal) (Body.acc1 (F := Ideal) (iblk m c 0 t) (iblk m c 1 t) (iblk m c 2 t) (iblk m c 3 t)) (ix4 u v r w)
      = Spec.tone (argX m c) (argP m c) b 1 h w := by
  refine (stored_at _ u v r w).trans (congrArg Ideal.tanh ?_)
  refine Body.acc1_at _ _ _ _ r w (255 * (h : ℕ) / 1023) (255 * (w : ℕ) / 1023) (fun i => Weights.zReal (argX m c (ix4 b i h w)))
    (fun i z y k => argP m c (ix4 b ⟨24 * ((1 : Fin 3) : ℕ) + (i : ℕ) * 8 + (z : ℕ), by omega⟩ y k)) ?_ ?_ ?_ ?_ ?_
  · intro y; rw [hh]; exact blk0 m c t r y
  · intro k; exact blk1 m c t k w
  · intro i
    rw [← (Weights.zPos_eq (hpos _)).1]
    exact congrArg Weights.zPos (blk2 m c t i r w b h hb hh)
  · intro i; exact (Weights.zPos_eq (hpos _)).2.1
  · intro i z n y k hn
    refine (blk3 m c t n y k b hb).trans (congrArg (fun n' => argP m c (ix4 b n' y k)) (Fin.ext ?_))
    simpa using hn

/-- Channel 2 of the block written at grid point `t`. -/
theorem channel2 (c : Dev nD) (hpos : ∀ j, (0 : EReal) ≤ argX m c j) (t : Fin cfg0.N) (u v : Fin 1) (r : Fin 256) (w : Fin 1024) (b : Fin 4) (h : Fin 1024)
    (hb : (b : ℕ) = t.val / 4) (hh : (h : ℕ) = t.val % 4 * 256 + r) :
    Body.stored (F := Ideal) (Body.acc2 (F := Ideal) (iblk m c 0 t) (iblk m c 1 t) (iblk m c 2 t) (iblk m c 3 t)) (ix4 u v r w)
      = Spec.tone (argX m c) (argP m c) b 2 h w := by
  refine (stored_at _ u v r w).trans (congrArg Ideal.tanh ?_)
  refine Body.acc2_at _ _ _ _ r w (255 * (h : ℕ) / 1023) (255 * (w : ℕ) / 1023) (fun i => Weights.zReal (argX m c (ix4 b i h w)))
    (fun i z y k => argP m c (ix4 b ⟨24 * ((2 : Fin 3) : ℕ) + (i : ℕ) * 8 + (z : ℕ), by omega⟩ y k)) ?_ ?_ ?_ ?_ ?_
  · intro y; rw [hh]; exact blk0 m c t r y
  · intro k; exact blk1 m c t k w
  · intro i
    rw [← (Weights.zPos_eq (hpos _)).1]
    exact congrArg Weights.zPos (blk2 m c t i r w b h hb hh)
  · intro i; exact (Weights.zPos_eq (hpos _)).2.1
  · intro i z n y k hn
    refine (blk3 m c t n y k b hb).trans (congrArg (fun n' => argP m c (ix4 b n' y k)) (Fin.ext ?_))
    simpa using hn

/-- The tone function of the two arguments as an array. -/
def result (c : Dev nD) : FVec Ideal S4x3x1024x1024 .f32 := fun j => Spec.tone (argX m c) (argP m c) (j 0) (j 1) (j 2) (j 3)

/-- Where a block index of grid point `t` sits in the array. -/
theorem placed (c : Dev nD) (t : Fin cfg0.N) (y : S1x3x256x1024.Idx) (r : Fin 256) (w : Fin 1024) (k : Fin 3)
    (h1 : (y 1 : ℕ) = (k : ℕ)) (h2 : (y 2 : ℕ) = (r : ℕ)) (h3 : (y 3 : ℕ) = (w : ℕ)) :
    result m c (((cfg0.win 4).blk t).view.emb y)
      = Spec.tone (argX m c) (argP m c) ⟨t.val / 4, (idx_val t).2.2.2.2.2.1⟩ k
          ⟨t.val % 4 * 256 + r, by have := (idx_val t).2.2.2.2.2.2; omega⟩ w := by
  have h0 : (y 0 : ℕ) = 0 := by have : (y 0 : ℕ) < 1 := (y 0).isLt; omega
  have e : ((cfg0.win 4).blk t).view.emb y = ix4 ⟨t.val / 4, (idx_val t).2.2.2.2.2.1⟩ k
      ⟨t.val % 4 * 256 + r, by have := (idx_val t).2.2.2.2.2.2; omega⟩ w := by
    funext a
    apply Fin.ext
    blk_simp [idx_val t]
    fin_cases a <;> simp <;> omega
  rw [e]
  rfl

/-- What grid point `t` leaves in its output block is the tone function at the place the block index sits at. -/
theorem point (c : Dev nD) (hpos : ∀ j, (0 : EReal) ≤ argX m c j) (t : Fin cfg0.N) (y : S1x3x256x1024.Idx) :
    out0_4 (F := Ideal) (iblk m c 0 t) (iblk m c 1 t) (iblk m c 2 t) (iblk m c 3 t) y = result m c (((cfg0.win 4).blk t).view.emb y) := by
  rw [Body.out_eq]
  canon_tiles x h
  · obtain ⟨u, v, r, w, rfl⟩ : ∃ (u v : Fin 1) (r : Fin 256) (w : Fin 1024), x = ix4 u v r w := ⟨x 0, x 1, x 2, x 3, eq_ix4 x⟩
    refine Eq.trans ?_ (placed m c t y r w 2 (by omega) h2 h3).symm
    exact channel2 m c hpos t _ _ _ _ _ _ rfl rfl
  · obtain ⟨u, v, r, w, rfl⟩ : ∃ (u v : Fin 1) (r : Fin 256) (w : Fin 1024), x = ix4 u v r w := ⟨x 0, x 1, x 2, x 3, eq_ix4 x⟩
    refine Eq.trans ?_ (placed m c t y r w 1 (by omega) h2 h3).symm
    exact channel1 m c hpos t _ _ _ _ _ _ rfl rfl
  · obtain ⟨u, v, r, w, rfl⟩ : ∃ (u v : Fin 1) (r : Fin 256) (w : Fin 1024), x = ix4 u v r w := ⟨x 0, x 1, x 2, x 3, eq_ix4 x⟩
    refine Eq.trans ?_ (placed m c t y r w 0 (by omega) h2 h3).symm
    exact channel0 m c hpos t _ _ _ _ _ _ rfl rfl

/-- The kernel's result array after the run. -/
theorem final (c : Dev nD) (hpos : ∀ j, (0 : EReal) ≤ argX m c j) : (dats m 0 c).arrAt 4 cfg0.N = result m c := by
  refine (dats m 0 c).arrAt_eq_of_covers 4 _ (by decide +kernel) fun t _ y => ?_
  blk_simp
  rw [after0_4]
  exact point m c hpos t y

end Cert.KernelIdeal.Array
-- ==== Proof.RefTerms.lean ====
/-
  The reference's terms: a position array, the two neighbouring grid indices of a position, one weighted corner, and
  the eight corners summed.
-/
module

public import proofs.«01_k».proof.Proof.Gen.ReferenceIdeal.Run
public import Idealize.ShloMosaic.Lib.Pointwise

@[expose] public section

set_option maxRecDepth 16384

noncomputable section

namespace Cert.ReferenceIdeal.Terms

open Idealize.ShloMosaic Idealize.ShloMosaic.TcCoe
open Cert.ReferenceIdeal Cert.ReferenceIdeal.Gen

variable {F : FTy → Type} [FloatOps F]

/-- One number at every pixel. -/
def all (x : BitVec 32) : FVec F S4x1024x1024 .f32 := broadcastInDim S4x1024x1024 ![] bcast_S_S4x1024x1024 (constant S_ .f32 x)
/-- One integer at every pixel. -/
def allI (n : BitVec 32) : IVec S4x1024x1024 32 := broadcastInDim S4x1024x1024 ![] bcast_S_S4x1024x1024 (constantI S_ 32 n)

/-- The position in a grid of last index `n` (as a float: `c`) of a coordinate in `[-1, 1]`. -/
def position (n c : BitVec 32) (x : FVec F S4x1024x1024 .f32) : FVec F S4x1024x1024 .f32 :=
  minimumf (broadcastInDim S4x1024x1024 ![] bcast_S_S4x1024x1024 (sitofp .f32 (constantI S_ 32 n)))
    (maximumf (broadcastInDim S4x1024x1024 ![] bcast_S_S4x1024x1024 (constant S_ .f32 0x00000000#32))
      (mulf (mulf (addf x (all 0x3F800000#32)) (all 0x3F000000#32)) (all c)))

/-- The grid index at or below a position. -/
def lower (p : FVec F S4x1024x1024 .f32) : IVec S4x1024x1024 32 := fptosi 32 (Host.floor p)
/-- The next grid index, the last index `n` at most. -/
def upper (n : BitVec 32) (p : FVec F S4x1024x1024 .f32) : IVec S4x1024x1024 32 := minsi (addi (lower p) (allI 1#32)) (allI n)
/-- A position's fraction. -/
def frac (p : FVec F S4x1024x1024 .f32) : FVec F S4x1024x1024 .f32 := subf p (Host.floor p)
/-- One minus a fraction. -/
def rest (p : FVec F S4x1024x1024 .f32) : FVec F S4x1024x1024 .f32 := subf (all 0x3F800000#32) (frac p)

/-- An index with negative values wrapped by the extent `n`. -/
def wrap (n : BitVec 32) (p : IVec S4x1024x1024 32) : IVec S4x1024x1024 32 := select (cmpi .slt p (allI 0#32)) (addi p (allI n)) p

/-- The image number at every pixel, wrapped the same way. -/
def image : IVec S4x1x1 32 := broadcastInDim S4x1x1 ![0] bcast_S4_S4x1x1_0 (iotaInDim S4 32 0)
/-- The image number of every pixel. -/
def imageAll : IVec S4x1024x1024 32 :=
  broadcastInDim S4x1024x1024 ![0, 1, 2] bcast_S4x1x1_S4x1024x1024_0_1_2
    (select (cmpi .slt image (broadcastInDim S4x1x1 ![] bcast_S_S4x1x1 (constantI S_ 32 0#32)))
      (addi image (broadcastInDim S4x1x1 ![] bcast_S_S4x1x1 (constantI S_ 32 4#32))) image)

/-- A pixel array as a column. -/
def column {α : Type} (p : S4x1024x1024.Idx → α) : S4x1024x1024x1.Idx → α :=
  broadcastInDim S4x1024x1024x1 ![0, 1, 2] bcast_S4x1024x1024_S4x1024x1024x1_0_1_2 p

/-- The four components of the place a corner is read at. -/
def place (z y x : IVec S4x1024x1024 32) : IVec S4x1024x1024x4 32 :=
  concatenate S4x1024x1024x4 3 [⟨S4x1024x1024x1, column imageAll⟩, ⟨S4x1024x1024x1, column (wrap 8#32 z)⟩,
    ⟨S4x1024x1024x1, column (wrap 256#32 y)⟩, ⟨S4x1024x1024x1, column (wrap 256#32 x)⟩]
    concatenates_S4x1024x1024x1_S4x1024x1024x1_S4x1024x1024x1_S4x1024x1024x1_S4x1024x1024x4_d3

/-- One corner: its weight times the control value at its place, in the three channels. -/
def corner (vol : FVec F S4x8x256x256x3 .f32) (wz wy wx : FVec F S4x1024x1024 .f32) (z y x : IVec S4x1024x1024 32) :
    FVec F S4x1024x1024x3 .f32 :=
  mulf (broadcastInDim S4x1024x1024x3 ![0, 1, 2, 3] bcast_S4x1024x1024x1_S4x1024x1024x3_0_1_2_3 (column (mulf (mulf wz wy) wx)))
    (Host.gather gather_S4x8x256x256x3_S4x1024x1024x4_S4x1024x1024x3_3_0123_n_n_0123_3_11113 vol (place z y x))

/-- The eight corners summed. -/
def trilinear (vol : FVec F S4x8x256x256x3 .f32) (X Y Z : FVec F S4x1024x1024 .f32) : FVec F S4x1024x1024x3 .f32 :=
  addf (addf (addf (addf (addf (addf (addf (addf
    (broadcastInDim S4x1024x1024x3 ![] bcast_S_S4x1024x1024x3 (constant S_ .f32 0x00000000#32))
    (corner vol (rest Z) (rest Y) (rest X) (lower Z) (lower Y) (lower X)))
    (corner vol (rest Z) (rest Y) (frac X) (lower Z) (lower Y) (upper 255#32 X)))
    (corner vol (rest Z) (frac Y) (rest X) (lower Z) (upper 255#32 Y) (lower X)))
    (corner vol (rest Z) (frac Y) (frac X) (lower Z) (upper 255#32 Y) (upper 255#32 X)))
    (corner vol (frac Z) (rest Y) (rest X) (upper 7#32 Z) (lower Y) (lower X)))
    (corner vol (frac Z) (rest Y) (frac X) (upper 7#32 Z) (lower Y) (upper 255#32 X)))
    (corner vol (frac Z) (frac Y) (rest X) (upper 7#32 Z) (upper 255#32 Y) (lower X)))
    (corner vol (frac Z) (frac Y) (frac X) (upper 7#32 Z) (upper 255#32 Y) (upper 255#32 X))

variable (V : Valuation τ sig (Elt F))

/-- Term 0 of the reference's sum, as the eight corners. -/
theorem v334_eq : Value.res_main_v334 V = trilinear (Value.res_main_v53 V) (Value.res_main_v17 V) (Value.res_main_v24 V) (Value.res_main_v31 V) := rfl
/-- Term 1 of the reference's sum, as the eight corners. -/
theorem v662_eq : Value.res_main_v662 V = trilinear (Value.res_main_v381 V) (Value.res_main_v345 V) (Value.res_main_v352 V) (Value.res_main_v359 V) := rfl
/-- Term 2 of the reference's sum, as the eight corners. -/
theorem v990_eq : Value.res_main_v990 V = trilinear (Value.res_main_v709 V) (Value.res_main_v673 V) (Value.res_main_v680 V) (Value.res_main_v687 V) := rfl

end Cert.ReferenceIdeal.Terms
-- ==== Proof.RefIndex.lean ====
/-
  What the reference's index terms are at a pixel: the two grid indices around a position, the fraction, and the control
  value one corner reads.
-/
module

public import proofs.«01_k».proof.Proof.RefTerms
public import proofs.«01_k».proof.Proof.Weights
public import proofs.«01_k».proof.Proof.Consts

@[expose] public section

set_option maxRecDepth 16384

noncomputable section

namespace Cert.ReferenceIdeal.Terms

open Idealize.ShloMosaic Idealize.ShloMosaic.TcCoe
open Cert.ReferenceIdeal Cert.ReferenceIdeal.Gen

/-- A gathered element: the operand at the four components of its place. -/
theorem gather_at (vol : FVec Ideal S4x8x256x256x3 .f32) (idx : IVec S4x1024x1024x4 32) (b : Fin 4) (h w : Fin 1024) (c : Fin 3)
    (z : Fin 8) (y x : Fin 256) (h0 : idx (ix4 b h w 0) = BitVec.ofNat 32 b) (h1 : idx (ix4 b h w 1) = BitVec.ofNat 32 z)
    (h2 : idx (ix4 b h w 2) = BitVec.ofNat 32 y) (h3 : idx (ix4 b h w 3) = BitVec.ofNat 32 x) :
    Host.gather gather_S4x8x256x256x3_S4x1024x1024x4_S4x1024x1024x3_3_0123_n_n_0123_3_11113 vol idx (ix4 b h w c) = vol (ix5 b z y x c) := by
  have key : ∀ (n k : ℕ), k < 2 ^ 31 → k ≤ n → min (BitVec.ofNat 32 k).toInt.toNat n = k := by
    intro n k hk hn
    have e : (BitVec.ofNat 32 k).toNat = k := by rw [BitVec.toNat_ofNat]; omega
    rw [BitVec.toInt_eq_toNat_of_lt (by rw [e]; omega), e]
    simp [hn]
  have hsi : ∀ k (hk : k < 4), gather_S4x8x256x256x3_S4x1024x1024x4_S4x1024x1024x3_3_0123_n_n_0123_3_11113.siIdx (ix4 b h w c) ⟨k, hk⟩
      = ix4 b h w ⟨k, hk⟩ := by
    intro k hk
    funext a
    refine Fin.ext ?_
    match a with
    | ⟨0, _⟩ => rfl
    | ⟨1, _⟩ => rfl
    | ⟨2, _⟩ => rfl
    | ⟨3, _⟩ => rfl
  unfold Host.gather
  congr 1
  funext a
  refine Fin.ext ?_
  match a with
  | ⟨0, _⟩ =>
    refine Eq.trans (b := min (idx (ix4 b h w 0)).toInt.toNat 3 + 0 + 0) ?_ (by rw [h0]; exact key 3 b (by omega) (by omega))
    exact congrArg (fun i => min (idx i).toInt.toNat 3 + 0 + 0) (hsi 0 (by omega))
  | ⟨1, _⟩ =>
    refine Eq.trans (b := min (idx (ix4 b h w 1)).toInt.toNat 7 + 0 + 0) ?_ (by rw [h1]; exact key 7 z (by omega) (by omega))
    exact congrArg (fun i => min (idx i).toInt.toNat 7 + 0 + 0) (hsi 1 (by omega))
  | ⟨2, _⟩ =>
    refine Eq.trans (b := min (idx (ix4 b h w 2)).toInt.toNat 255 + 0 + 0) ?_ (by rw [h2]; exact key 255 y (by omega) (by omega))
    exact congrArg (fun i => min (idx i).toInt.toNat 255 + 0 + 0) (hsi 2 (by omega))
  | ⟨3, _⟩ =>
    refine Eq.trans (b := min (idx (ix4 b h w 3)).toInt.toNat 255 + 0 + 0) ?_ (by rw [h3]; exact key 255 x (by omega) (by omega))
    exact congrArg (fun i => min (idx i).toInt.toNat 255 + 0 + 0) (hsi 3 (by omega))
  | ⟨4, _⟩ => exact (by omega : 0 + 0 + (c : ℕ) = (c : ℕ))

variable (p : FVec Ideal S4x1024x1024 .f32) (j : S4x1024x1024.Idx)

/-- The index below a nonnegative position. -/
theorem lower_at (t : ℝ) (ht : 0 ≤ t) (ht' : t ≤ (255 : ℕ)) (hp : p j = (t : EReal)) : lower p j = BitVec.ofNat 32 (Weights.lo t) := by
  have e : lower p j = BitVec.ofInt 32 (Ideal.toIntClamped (-(2 ^ 31)) (2 ^ 31 - 1) (Ideal.liftRound Int.floor (p j))) := rfl
  have f : ((Weights.lo t : ℕ) : ℤ) = ⌊t⌋ := Int.natCast_floor_eq_floor ht
  have hl := Weights.lo_lt ht'
  have g : Ideal.toIntClamped (-(2 ^ 31)) (2 ^ 31 - 1) (((((Weights.lo t : ℕ) : ℤ) : ℝ)) : EReal)
      = max (-(2 ^ 31)) (min (2 ^ 31 - 1) (if 0 ≤ (((Weights.lo t : ℕ) : ℤ) : ℝ) then ⌊(((Weights.lo t : ℕ) : ℤ) : ℝ)⌋ else ⌈(((Weights.lo t : ℕ) : ℤ) : ℝ)⌉)) := rfl
  rw [e, hp, Ideal.liftRound_coe, ← f, g, Int.floor_intCast, Int.ceil_intCast, ite_self,
    max_eq_right (by omega), min_eq_right (by omega)]
  exact BitVec.ofInt_natCast 32 _

/-- The index above, the last one at most. -/
theorem upper_at (n : ℕ) (hn : n ≤ 255) (t : ℝ) (ht : 0 ≤ t) (ht' : t ≤ (255 : ℕ)) (hp : p j = (t : EReal)) :
    upper (BitVec.ofNat 32 n) p j = BitVec.ofNat 32 (min (Weights.lo t + 1) n) := by
  have e : upper (BitVec.ofNat 32 n) p j = IntOp.minsi (lower p j + 1#32) (BitVec.ofNat 32 n) := rfl
  have hl := Weights.lo_lt ht'
  rw [e, lower_at p j t ht ht' hp]
  have v : ∀ k : ℕ, k ≤ 256 → (BitVec.ofNat 32 k).toInt = k := by
    intro k hk
    have e : (BitVec.ofNat 32 k).toNat = k := by rw [BitVec.toNat_ofNat]; omega
    rw [BitVec.toInt_eq_toNat_of_lt (by rw [e]; omega), e]
  have a : BitVec.ofNat 32 (Weights.lo t) + 1#32 = BitVec.ofNat 32 (Weights.lo t + 1) := (BitVec.ofNat_add _ _).symm
  rw [a]
  unfold IntOp.minsi
  simp only [BitVec.slt, v _ (by omega : Weights.lo t + 1 ≤ 256), v n (by omega)]
  by_cases h : Weights.lo t + 1 < n
  · rw [if_pos (by simpa using (by exact_mod_cast h : ((Weights.lo t + 1 : ℕ) : ℤ) < (n : ℤ))), min_eq_left h.le]
  · rw [if_neg (by simpa using (by exact_mod_cast not_lt.1 h : (n : ℤ) ≤ ((Weights.lo t + 1 : ℕ) : ℤ))), min_eq_right (not_lt.1 h)]

/-- A small nonnegative index is not wrapped. -/
theorem wrap_at (n : BitVec 32) (i : IVec S4x1024x1024 32) (k : ℕ) (hk : k ≤ 255) (hi : i j = BitVec.ofNat 32 k) :
    wrap n i j = BitVec.ofNat 32 k := by
  have e : wrap n i j = Scalar.select (IntOp.cmpi .slt (i j) 0#32) (i j + n) (i j) := rfl
  have t : (BitVec.ofNat 32 k).toNat = k := by rw [BitVec.toNat_ofNat]; omega
  have f : (BitVec.ofNat 32 k).slt 0#32 = false := by
    unfold BitVec.slt
    rw [BitVec.toInt_eq_toNat_of_lt (by rw [t]; omega), t]
    simp
  have c : IntOp.cmpi .slt (BitVec.ofNat 32 k) 0#32 = 0#1 := congrArg BitVec.ofBool f
  rw [e, hi, c]
  rfl

/-- A position's fraction. -/
theorem frac_at (t : ℝ) (ht : 0 ≤ t) (hp : p j = (t : EReal)) : frac p j = ((Weights.fr t : ℝ) : EReal) := by
  have e : frac p j = p j - Ideal.liftRound Int.floor (p j) := rfl
  have f : ((Weights.lo t : ℕ) : ℤ) = ⌊t⌋ := Int.natCast_floor_eq_floor ht
  rw [e, hp, Ideal.liftRound_coe, ← f]
  simp [Weights.fr]

/-- One minus it. -/
theorem rest_at (t : ℝ) (ht : 0 ≤ t) (hp : p j = (t : EReal)) : rest p j = ((1 - Weights.fr t : ℝ) : EReal) := by
  have e : rest p j = all (F := Ideal) 0x3F800000#32 j - frac p j := rfl
  rw [e, frac_at p j t ht hp]
  pointwise [all]
  simp

/-- The image number at a pixel. -/
theorem imageAll_at (b : Fin 4) (h w : Fin 1024) : imageAll (ix3 b h w) = BitVec.ofNat 32 b := by
  have e : ∀ b : Fin 4, Scalar.select (IntOp.cmpi .slt (BitVec.ofNat 32 b) 0#32) (IntOp.addi (BitVec.ofNat 32 b) 4#32) (BitVec.ofNat 32 b)
      = BitVec.ofNat 32 b := by
    decide
  refine Eq.trans ?_ (e b)
  pointwise [imageAll, image]

/-- A column at an index. -/
theorem column_at {α : Type} (q : S4x1024x1024.Idx → α) (b : Fin 4) (h w : Fin 1024) (u : Fin 1) : column q (ix4 b h w u) = q (ix3 b h w) := by
  pointwise [column]

/-- The four components of a place. -/
theorem place_at (z y x : IVec S4x1024x1024 32) (b : Fin 4) (h w : Fin 1024) :
    place z y x (ix4 b h w 0) = imageAll (ix3 b h w) ∧ place z y x (ix4 b h w 1) = wrap 8#32 z (ix3 b h w)
    ∧ place z y x (ix4 b h w 2) = wrap 256#32 y (ix3 b h w) ∧ place z y x (ix4 b h w 3) = wrap 256#32 x (ix3 b h w) := by
  refine ⟨?_, ?_, ?_, ?_⟩
  · refine Eq.trans ?_ (column_at imageAll b h w 0); pointwise [place]
  · refine Eq.trans ?_ (column_at (wrap 8#32 z) b h w 0); pointwise [place]
  · refine Eq.trans ?_ (column_at (wrap 256#32 y) b h w 0); pointwise [place]
  · refine Eq.trans ?_ (column_at (wrap 256#32 x) b h w 0); pointwise [place]

/-- One corner at an index. -/
theorem corner_at (vol : FVec Ideal S4x8x256x256x3 .f32) (wz wy wx : FVec Ideal S4x1024x1024 .f32) (iz iy ix : IVec S4x1024x1024 32)
    (b : Fin 4) (h w : Fin 1024) (c : Fin 3) (rz ry rx : ℝ) (z : Fin 8) (y x : Fin 256)
    (hwz : wz (ix3 b h w) = (rz : EReal)) (hwy : wy (ix3 b h w) = (ry : EReal)) (hwx : wx (ix3 b h w) = (rx : EReal))
    (hz : iz (ix3 b h w) = BitVec.ofNat 32 z) (hy : iy (ix3 b h w) = BitVec.ofNat 32 y) (hx : ix (ix3 b h w) = BitVec.ofNat 32 x) :
    corner vol wz wy wx iz iy ix (ix4 b h w c) = ((rz * ry * rx : ℝ) : EReal) * vol (ix5 b z y x c) := by
  have hp := place_at iz iy ix b h w
  have e : corner vol wz wy wx iz iy ix (ix4 b h w c) = (wz (ix3 b h w) * wy (ix3 b h w) * wx (ix3 b h w))
      * Host.gather gather_S4x8x256x256x3_S4x1024x1024x4_S4x1024x1024x3_3_0123_n_n_0123_3_11113 vol (place iz iy ix) (ix4 b h w c) := by
    pointwise [corner, column]
  rw [e, hwz, hwy, hwx, EReal.coe_mul, EReal.coe_mul,
    gather_at vol _ b h w c z y x (hp.1.trans (imageAll_at b h w))
      (hp.2.1.trans (wrap_at _ _ _ z (by omega) hz)) (hp.2.2.1.trans (wrap_at _ _ _ y (by omega) hy)) (hp.2.2.2.trans (wrap_at _ _ _ x (by omega) hx))]

end Cert.ReferenceIdeal.Terms
-- ==== Proof.RefVal.lean ====
/-
  The reference's value at an index: its three positions, the control values it reads, and the eight corners as the
  weighted sum over the whole grid.
-/
module

public import proofs.«01_k».proof.Proof.RefIndex
public import proofs.«01_k».proof.Proof.Spec

@[expose] public section

set_option maxRecDepth 16384

noncomputable section

namespace Cert.ReferenceIdeal.Terms

open Idealize.ShloMosaic Idealize.ShloMosaic.TcCoe
open Cert.ReferenceIdeal Cert.ReferenceIdeal.Gen

/-- The eight corners summed are the sum over the whole grid with tent weights. -/
theorem trilinear_at (vol : FVec Ideal S4x8x256x256x3 .f32) (X Y Z : FVec Ideal S4x1024x1024 .f32) (b : Fin 4) (h w : Fin 1024) (c : Fin 3)
    (t a d : ℝ) (ht : 0 ≤ t) (ht' : t ≤ (7 : ℕ)) (ha : 0 ≤ a) (ha' : a ≤ (255 : ℕ)) (hd : 0 ≤ d) (hd' : d ≤ (255 : ℕ))
    (hZ : Z (ix3 b h w) = (t : EReal)) (hY : Y (ix3 b h w) = (a : EReal)) (hX : X (ix3 b h w) = (d : EReal)) :
    trilinear vol X Y Z (ix4 b h w c) = Weights.curveVal t a d (fun z y x => vol (ix5 b z y x c)) := by
  have ht255 : t ≤ (255 : ℕ) := ht'.trans (by norm_num)
  have lz := lower_at Z (ix3 b h w) t ht ht255 hZ
  have ly := lower_at Y (ix3 b h w) a ha ha' hY
  have lx := lower_at X (ix3 b h w) d hd hd' hX
  have uz := upper_at Z (ix3 b h w) 7 (by omega) t ht ht255 hZ
  have uy := upper_at Y (ix3 b h w) 255 (by omega) a ha ha' hY
  have ux := upper_at X (ix3 b h w) 255 (by omega) d hd hd' hX
  have fz := frac_at Z (ix3 b h w) t ht hZ
  have fy := frac_at Y (ix3 b h w) a ha hY
  have fx := frac_at X (ix3 b h w) d hd hX
  have rz := rest_at Z (ix3 b h w) t ht hZ
  have ry := rest_at Y (ix3 b h w) a ha hY
  have rx := rest_at X (ix3 b h w) d hd hX
  rw [Weights.curveVal_corners ht ht' ha ha' hd hd']
  refine Eq.trans (b := 0
    + corner vol (rest Z) (rest Y) (rest X) (lower Z) (lower Y) (lower X) (ix4 b h w c)
    + corner vol (rest Z) (rest Y) (frac X) (lower Z) (lower Y) (upper 255#32 X) (ix4 b h w c)
    + corner vol (rest Z) (frac Y) (rest X) (lower Z) (upper 255#32 Y) (lower X) (ix4 b h w c)
    + corner vol (rest Z) (frac Y) (frac X) (lower Z) (upper 255#32 Y) (upper 255#32 X) (ix4 b h w c)
    + corner vol (frac Z) (rest Y) (rest X) (upper 7#32 Z) (lower Y) (lower X) (ix4 b h w c)
    + corner vol (frac Z) (rest Y) (frac X) (upper 7#32 Z) (lower Y) (upper 255#32 X) (ix4 b h w c)
    + corner vol (frac Z) (frac Y) (rest X) (upper 7#32 Z) (upper 255#32 Y) (lower X) (ix4 b h w c)
    + corner vol (frac Z) (frac Y) (frac X) (upper 7#32 Z) (upper 255#32 Y) (upper 255#32 X) (ix4 b h w c)) ?_ ?_
  · have z0 : broadcastInDim S4x1024x1024x3 ![] bcast_S_S4x1024x1024x3 (constant (F := Ideal) S_ .f32 0x00000000#32) (ix4 b h w c) = (0 : EReal) := by
      pointwise
    rw [← z0]
    rfl
  · rw [corner_at vol _ _ _ _ _ _ b h w c _ _ _ (Weights.loF 7 t ht') (Weights.loF 255 a ha') (Weights.loF 255 d hd') rz ry rx lz ly lx,
      corner_at vol _ _ _ _ _ _ b h w c _ _ _ (Weights.loF 7 t ht') (Weights.loF 255 a ha') (Weights.hiF 255 d) rz ry fx lz ly ux,
      corner_at vol _ _ _ _ _ _ b h w c _ _ _ (Weights.loF 7 t ht') (Weights.hiF 255 a) (Weights.loF 255 d hd') rz fy rx lz uy lx,
      corner_at vol _ _ _ _ _ _ b h w c _ _ _ (Weights.loF 7 t ht') (Weights.hiF 255 a) (Weights.hiF 255 d) rz fy fx lz uy ux,
      corner_at vol _ _ _ _ _ _ b h w c _ _ _ (Weights.hiF 7 t) (Weights.loF 255 a ha') (Weights.loF 255 d hd') fz ry rx uz ly lx,
      corner_at vol _ _ _ _ _ _ b h w c _ _ _ (Weights.hiF 7 t) (Weights.loF 255 a ha') (Weights.hiF 255 d) fz ry fx uz ly ux,
      corner_at vol _ _ _ _ _ _ b h w c _ _ _ (Weights.hiF 7 t) (Weights.hiF 255 a) (Weights.loF 255 d hd') fz fy rx uz uy lx,
      corner_at vol _ _ _ _ _ _ b h w c _ _ _ (Weights.hiF 7 t) (Weights.hiF 255 a) (Weights.hiF 255 d) fz fy fx uz uy ux]
    simp only [EReal.coe_mul]

/-- The coordinates `-1 … 1` in 1024 steps. -/
def linspace {F : FTy → Type} [FloatOps F] : FVec F S1024 .f32 :=
  concatenate S1024 0 [⟨S1023, addf
      (mulf (broadcastInDim S1023 ![0] bcast_S1_S1023_0 (shapeCast _ (constant S_ .f32 0xBF800000#32) shapeCasts_S_S1))
        (subf (broadcastInDim S1023 ![] bcast_S_S1023 (constant S_ .f32 0x3F800000#32))
          (Host.divf (sitofp .f32 (iotaInDim S1023 32 0)) (broadcastInDim S1023 ![] bcast_S_S1023 (constant S_ .f32 0x447FC000#32)))))
      (mulf (broadcastInDim S1023 ![0] bcast_S1_S1023_0 (shapeCast _ (constant S_ .f32 0x3F800000#32) shapeCasts_S_S1))
        (Host.divf (sitofp .f32 (iotaInDim S1023 32 0)) (broadcastInDim S1023 ![] bcast_S_S1023 (constant S_ .f32 0x447FC000#32))))⟩,
    ⟨S1, broadcastInDim S1 ![] bcast_S_S1 (constant S_ .f32 0x3F800000#32)⟩] concatenates_S1023_S1_S1024_d0

/-- Coordinate number `w` is `2 w / 1023 - 1`. -/
theorem linspace_at (w : Fin 1024) : linspace (F := Ideal) (ix1 w) = ((2 * (w : ℕ) / 1023 - 1 : ℝ) : EReal) := by
  refine Consts.lin_at w w.isLt _ ?_
  pointwise [linspace]
  by_cases h : (w : ℕ) < 1023
  · simp only [ix1_0, dif_pos h, if_pos h, Consts.ofNat_sitofp _ (show (w : ℕ) < 2 ^ 31 by omega), Consts.neg_one, Consts.c1023]
  · simp only [ix1_0, dif_neg h, if_neg h]

/-- The column coordinate of every pixel. -/
def gridX {F : FTy → Type} [FloatOps F] : FVec F S4x1024x1024 .f32 :=
  broadcastInDim S4x1024x1024 ![1, 2] bcast_S1x1024_S4x1024x1024_1_2 (broadcastInDim S1x1024 ![1] bcast_S1024_S1x1024_1 linspace)
/-- The row coordinate of every pixel. -/
def gridY {F : FTy → Type} [FloatOps F] : FVec F S4x1024x1024 .f32 :=
  broadcastInDim S4x1024x1024 ![1, 2] bcast_S1024x1_S4x1024x1024_1_2 (broadcastInDim S1024x1 ![0] bcast_S1024_S1024x1_0 linspace)

/-- The column position of a pixel. -/
theorem posX_at (b : Fin 4) (h w : Fin 1024) :
    position (F := Ideal) 255#32 0x437F0000#32 gridX (ix3 b h w) = ((255 * (w : ℕ) / 1023 : ℝ) : EReal) := by
  pointwise [position, all, gridX, Consts.half, Consts.c255]
  rw [Consts.int255, Consts.pos_at w w.isLt _ (linspace_at w)]

/-- The row position of a pixel. -/
theorem posY_at (b : Fin 4) (h w : Fin 1024) :
    position (F := Ideal) 255#32 0x437F0000#32 gridY (ix3 b h w) = ((255 * (h : ℕ) / 1023 : ℝ) : EReal) := by
  pointwise [position, all, gridY, Consts.half, Consts.c255]
  rw [Consts.int255, Consts.pos_at h h.isLt _ (linspace_at h)]

/-- The position of an image value on its curve. -/
theorem posZ_at (p : FVec Ideal S4x1024x1024 .f32) (b : Fin 4) (h w : Fin 1024) :
    position (F := Ideal) 7#32 0x40E00000#32 p (ix3 b h w) = Weights.zPos (p (ix3 b h w)) := by
  pointwise [position, all, Consts.half, Consts.seven]
  rw [Consts.int7, mul_assoc, ← EReal.coe_mul, Weights.zPos]
  norm_num

end Cert.ReferenceIdeal.Terms
-- ==== Proof.RefResult.lean ====
/-
  The reference's result is the tone function of its two arguments.
-/
module

public import proofs.«01_k».proof.Proof.RefVal

@[expose] public section

set_option maxRecDepth 16384

noncomputable section

namespace Cert.ReferenceIdeal.Terms

open Idealize.ShloMosaic Idealize.ShloMosaic.TcCoe
open Cert.ReferenceIdeal Cert.ReferenceIdeal.Gen

section
variable {F : FTy → Type} [FloatOps F] (V : Valuation τ sig (Elt F))

/-- The image argument as a valuation holds it. -/
abbrev valX : FVec F S4x3x1024x1024 .f32 := V (Proc.devRef .tc main_arg0)
/-- The control argument as a valuation holds it. -/
abbrev valP : FVec F S4x72x256x256 .f32 := V (Proc.devRef .tc main_arg1)

/-- Plane 0 of the image argument. -/
def plane0 (x : FVec F S4x3x1024x1024 .f32) : FVec F S4x1024x1024 .f32 :=
  shapeCast _ (extractStridedSlice S4x1x1024x1024 ![0, 0, 0, 0] x slices_S4x3x1024x1024_S4x1x1024x1024_0_0_0_0) shapeCasts_S4x1x1024x1024_S4x1024x1024
/-- Control volume 0. -/
def volume0 (p : FVec F S4x72x256x256 .f32) : FVec F S4x8x256x256x3 .f32 :=
  transpose S4x8x256x256x3 [0, 2, 3, 4, 1]
    (extractStridedSlice S4x3x8x256x256 ![0, 0, 0, 0, 0] (shapeCast S4x3x24x256x256 p shapeCasts_S4x72x256x256_S4x3x24x256x256)
      slices_S4x3x24x256x256_S4x3x8x256x256_0_0_0_0_0) transposes_S4x3x8x256x256_S4x8x256x256x3_0_2_3_4_1

/-- Plane 1 of the image argument. -/
def plane1 (x : FVec F S4x3x1024x1024 .f32) : FVec F S4x1024x1024 .f32 :=
  shapeCast _ (extractStridedSlice S4x1x1024x1024 ![0, 1, 0, 0] x slices_S4x3x1024x1024_S4x1x1024x1024_0_1_0_0) shapeCasts_S4x1x1024x1024_S4x1024x1024
/-- Control volume 1. -/
def volume1 (p : FVec F S4x72x256x256 .f32) : FVec F S4x8x256x256x3 .f32 :=
  transpose S4x8x256x256x3 [0, 2, 3, 4, 1]
    (extractStridedSlice S4x3x8x256x256 ![0, 0, 8, 0, 0] (shapeCast S4x3x24x256x256 p shapeCasts_S4x72x256x256_S4x3x24x256x256)
      slices_S4x3x24x256x256_S4x3x8x256x256_0_0_8_0_0) transposes_S4x3x8x256x256_S4x8x256x256x3_0_2_3_4_1

/-- Plane 2 of the image argument. -/
def plane2 (x : FVec F S4x3x1024x1024 .f32) : FVec F S4x1024x1024 .f32 :=
  shapeCast _ (extractStridedSlice S4x1x1024x1024 ![0, 2, 0, 0] x slices_S4x3x1024x1024_S4x1x1024x1024_0_2_0_0) shapeCasts_S4x1x1024x1024_S4x1024x1024
/-- Control volume 2. -/
def volume2 (p : FVec F S4x72x256x256 .f32) : FVec F S4x8x256x256x3 .f32 :=
  transpose S4x8x256x256x3 [0, 2, 3, 4, 1]
    (extractStridedSlice S4x3x8x256x256 ![0, 0, 16, 0, 0] (shapeCast S4x3x24x256x256 p shapeCasts_S4x72x256x256_S4x3x24x256x256)
      slices_S4x3x24x256x256_S4x3x8x256x256_0_0_16_0_0) transposes_S4x3x8x256x256_S4x8x256x256x3_0_2_3_4_1

/-- Curve `i` of the reference, from its control volume and its plane. -/
def curveR (vol : FVec F S4x8x256x256x3 .f32) (p : FVec F S4x1024x1024 .f32) : FVec F S4x1024x1024x3 .f32 :=
  trilinear vol (position 255#32 0x437F0000#32 gridX) (position 255#32 0x437F0000#32 gridY) (position 7#32 0x40E00000#32 p)

/-- The reference's result from its arguments. -/
def resultR (x : FVec F S4x3x1024x1024 .f32) (p : FVec F S4x72x256x256 .f32) : FVec F S4x3x1024x1024 .f32 :=
  Host.tanh (transpose S4x3x1024x1024 [0, 3, 1, 2]
    (addf (addf (addf (broadcastInDim S4x1024x1024x3 ![] bcast_S_S4x1024x1024x3 (constant S_ .f32 0x00000000#32))
      (curveR (volume0 p) (plane0 x))) (curveR (volume1 p) (plane1 x))) (curveR (volume2 p) (plane2 x)))
    transposes_S4x1024x1024x3_S4x3x1024x1024_0_3_1_2)

/-- Term 0 of the reference's sum is curve 0. -/
theorem curve0_eq : Value.res_main_v334 V = curveR (volume0 (valP V)) (plane0 (valX V)) := by
  have hx : Value.res_main_v17 V = position 255#32 0x437F0000#32 gridX := rfl
  have hy : Value.res_main_v24 V = position 255#32 0x437F0000#32 gridY := rfl
  have hz : Value.res_main_v31 V = position 7#32 0x40E00000#32 (plane0 (valX V)) := rfl
  have hv : Value.res_main_v53 V = volume0 (valP V) := rfl
  exact (v334_eq V).trans (by rw [hx, hy, hz, hv]; rfl)

/-- Term 1 of the reference's sum is curve 1. -/
theorem curve1_eq : Value.res_main_v662 V = curveR (volume1 (valP V)) (plane1 (valX V)) := by
  have hx : Value.res_main_v345 V = position 255#32 0x437F0000#32 gridX := rfl
  have hy : Value.res_main_v352 V = position 255#32 0x437F0000#32 gridY := rfl
  have hz : Value.res_main_v359 V = position 7#32 0x40E00000#32 (plane1 (valX V)) := rfl
  have hv : Value.res_main_v381 V = volume1 (valP V) := rfl
  exact (v662_eq V).trans (by rw [hx, hy, hz, hv]; rfl)

/-- Term 2 of the reference's sum is curve 2. -/
theorem curve2_eq : Value.res_main_v990 V = curveR (volume2 (valP V)) (plane2 (valX V)) := by
  have hx : Value.res_main_v673 V = position 255#32 0x437F0000#32 gridX := rfl
  have hy : Value.res_main_v680 V = position 255#32 0x437F0000#32 gridY := rfl
  have hz : Value.res_main_v687 V = position 7#32 0x40E00000#32 (plane2 (valX V)) := rfl
  have hv : Value.res_main_v709 V = volume2 (valP V) := rfl
  exact (v990_eq V).trans (by rw [hx, hy, hz, hv]; rfl)

end

/-- Plane 0 at a pixel. -/
theorem plane0_at (x : FVec Ideal S4x3x1024x1024 .f32) (b : Fin 4) (h w : Fin 1024) : plane0 x (ix3 b h w) = x (ix4 b 0 h w) := by
  pointwise [plane0]

/-- Control volume 0 at an index. -/
theorem volume0_at (p : FVec Ideal S4x72x256x256 .f32) (b : Fin 4) (z : Fin 8) (y x : Fin 256) (c : Fin 3) :
    volume0 p (ix5 b z y x c) = p (ix4 b ⟨24 * (c : ℕ) + ((0 : Fin 3) : ℕ) * 8 + (z : ℕ), by omega⟩ y x) := by
  pointwise [volume0]
  exact congrArg (fun n => p (ix4 b n y x)) (Fin.ext (by simp; omega))

/-- Plane 1 at a pixel. -/
theorem plane1_at (x : FVec Ideal S4x3x1024x1024 .f32) (b : Fin 4) (h w : Fin 1024) : plane1 x (ix3 b h w) = x (ix4 b 1 h w) := by
  pointwise [plane1]

/-- Control volume 1 at an index. -/
theorem volume1_at (p : FVec Ideal S4x72x256x256 .f32) (b : Fin 4) (z : Fin 8) (y x : Fin 256) (c : Fin 3) :
    volume1 p (ix5 b z y x c) = p (ix4 b ⟨24 * (c : ℕ) + ((1 : Fin 3) : ℕ) * 8 + (z : ℕ), by omega⟩ y x) := by
  pointwise [volume1]
  exact congrArg (fun n => p (ix4 b n y x)) (Fin.ext (by simp; omega))

/-- Plane 2 at a pixel. -/
theorem plane2_at (x : FVec Ideal S4x3x1024x1024 .f32) (b : Fin 4) (h w : Fin 1024) : plane2 x (ix3 b h w) = x (ix4 b 2 h w) := by
  pointwise [plane2]

/-- Control volume 2 at an index. -/
theorem volume2_at (p : FVec Ideal S4x72x256x256 .f32) (b : Fin 4) (z : Fin 8) (y x : Fin 256) (c : Fin 3) :
    volume2 p (ix5 b z y x c) = p (ix4 b ⟨24 * (c : ℕ) + ((2 : Fin 3) : ℕ) * 8 + (z : ℕ), by omega⟩ y x) := by
  pointwise [volume2]
  exact congrArg (fun n => p (ix4 b n y x)) (Fin.ext (by simp; omega))

/-- A curve at an index. -/
theorem curveR_at (vol : FVec Ideal S4x8x256x256x3 .f32) (p : FVec Ideal S4x1024x1024 .f32) (b : Fin 4) (h w : Fin 1024) (c : Fin 3)
    (hp : 0 ≤ p (ix3 b h w)) :
    curveR vol p (ix4 b h w c) = Weights.curveVal (Weights.zReal (p (ix3 b h w))) (255 * (h : ℕ) / 1023) (255 * (w : ℕ) / 1023)
      (fun z y x => vol (ix5 b z y x c)) := by
  have hz := Weights.zPos_eq hp
  exact trilinear_at vol _ _ _ b h w c _ _ _ (by linarith [hz.2.1]) hz.2.2 (Weights.pos_nonneg h) (Weights.pos_le h.isLt)
    (Weights.pos_nonneg w) (Weights.pos_le w.isLt) ((posZ_at p b h w).trans hz.1) (posY_at b h w) (posX_at b h w)

/-- The reference's result at an index. -/
theorem resultR_at (x : FVec Ideal S4x3x1024x1024 .f32) (p : FVec Ideal S4x72x256x256 .f32) (hx : ∀ j, (0 : EReal) ≤ x j)
    (b : Fin 4) (c : Fin 3) (h w : Fin 1024) : resultR x p (ix4 b c h w) = Spec.tone x p b c h w := by
  have e : resultR x p (ix4 b c h w) = Ideal.tanh (0 + curveR (volume0 p) (plane0 x) (ix4 b h w c)
      + curveR (volume1 p) (plane1 x) (ix4 b h w c) + curveR (volume2 p) (plane2 x) (ix4 b h w c)) := by
    pointwise [resultR]
  rw [e, curveR_at _ _ b h w c (by rw [plane0_at]; exact hx _), curveR_at _ _ b h w c (by rw [plane1_at]; exact hx _),
    curveR_at _ _ b h w c (by rw [plane2_at]; exact hx _)]
  simp only [plane0_at, plane1_at, plane2_at, volume0_at, volume1_at, volume2_at]
  rfl

end Cert.ReferenceIdeal.Terms
-- ==== Proof.Nonneg.lean ====
/-
  What the precondition says: every image value is nonnegative.
-/
module

public import proofs.«01_k».proof.Pre_nonneg
public import Idealize.ShloMosaic.Lib.ReduceAll
public import Idealize.ShloMosaic.Lib.Pointwise

@[expose] public section

noncomputable section

namespace Cert.Nonneg

open Idealize.ShloMosaic Idealize.ShloMosaic.TcCoe

/-- The precondition's one bit is set only if every image value is at least zero. -/
theorem nonneg_of_fn [Cert.Pre_nonneg.Facts] (x : FVec Ideal Cert.Pre_nonneg.S4x3x1024x1024 .f32) (p : FVec Ideal Cert.Pre_nonneg.S4x72x256x256 .f32)
    (h : Cert.Pre_nonneg.fn (F := Ideal) x p = fun _ => 1#1) (j : Cert.Pre_nonneg.S4x3x1024x1024.Idx) : (0 : EReal) ≤ x j := by
  have : Subsingleton Cert.Pre_nonneg.S_.Idx := ⟨fun a b => funext fun k => k.elim0⟩
  have e := Host.reduce_andi_all _ _ _ _ ix0 (congrFun h ix0) j
  have f : BitVec.ofBool (decide (Ideal.ofBits .f32 0x00000000#32 ≤ x j)) = 1#1 := e
  have g : Ideal.ofBits .f32 0x00000000#32 = (0 : EReal) := by
    simp [Ideal.ofBits, Ideal.ieee]
  rw [g] at f
  by_contra hc
  simp [hc] at f

end Cert.Nonneg
-- ==== Proof.Equation.lean ====
/-
  The runs of the two programs end with the tone function of the two arguments, and so with the same array.
-/
module

public import proofs.«01_k».proof.Defs
public import proofs.«01_k».proof.Proof.KernelArray
public import proofs.«01_k».proof.Proof.RefResult
public import proofs.«01_k».proof.Proof.Nonneg
public import proofs.«01_k».proof.Proof.Gen.Pre_nonneg
public import Idealize.ShloMosaic.Lib.Quiescent

@[expose] public section

noncomputable section

namespace Cert.Equation

open Idealize.ShloMosaic Idealize.ShloMosaic.TcCoe Idealize.SL.Sem

open Cert.KernelIdeal.Array (argX argP result)

/-- The kernel's run ends with the tone function of its arguments, from nonnegative image values. -/
theorem kernel_run (m : (ℓ : Loc Cert.KernelIdeal.nD Cert.KernelIdeal.τ Cert.KernelIdeal.sig) → Buf (Elt Ideal) ℓ) (g : Dev Cert.KernelIdeal.nD → PrngReg)
    (hm : Pre_KernelIdeal_nonneg m) :
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_v0) = result m c
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)) :=
  (θ_run _ _ _).mono (fun _ h c => ⟨(h c).1.trans (Cert.KernelIdeal.Array.final m c (Nonneg.nonneg_of_fn _ _ (hm c))), (h c).2⟩)
    (Cert.KernelIdeal.Value.run_blocks (F := Ideal) m g)

/-- The reference's result array from its arguments. -/
theorem reference_value (m : (ℓ : Loc Cert.KernelIdeal.nD Cert.KernelIdeal.τ Cert.KernelIdeal.sig) → Buf (Elt Ideal) ℓ)
    (c : Dev Cert.KernelIdeal.nD) (hm : Pre_KernelIdeal_nonneg m) :
    Cert.ReferenceIdeal.Terms.resultR (F := Ideal) (argX m c) (argP m c) = result m c := by
  funext j
  obtain ⟨b, k, h, w, rfl⟩ : ∃ (b : Fin 4) (k : Fin 3) (h w : Fin 1024), j = ix4 b k h w := ⟨j 0, j 1, j 2, j 3, eq_ix4 j⟩
  exact Cert.ReferenceIdeal.Terms.resultR_at _ _ (Nonneg.nonneg_of_fn _ _ (hm c)) b k h w

/-- The reference's run ends with its result term. -/
theorem reference_run (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_v993)
        = Cert.ReferenceIdeal.Terms.resultR (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)) := by
  refine (θ_run _ _ _).mono (fun r h c => ⟨(h c).1.trans ?_, (h c).2⟩) (Cert.ReferenceIdeal.Value.run (F := Ideal) m g)
  rw [Cert.ReferenceIdeal.Terms.curve0_eq, Cert.ReferenceIdeal.Terms.curve1_eq, Cert.ReferenceIdeal.Terms.curve2_eq]
  rfl

/-- The reference runs, leaves its arguments and ends quiescent. -/
theorem reference_frame (m : (ℓ : Loc Cert.ReferenceIdeal.nD Cert.ReferenceIdeal.τ Cert.ReferenceIdeal.sig) → Buf (Elt Ideal) ℓ) (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0) :=
  (θ_run Cert.ReferenceIdeal.defs _ _).mono (fun r h => ⟨fun c => (h c).2, Idealize.ShloMosaic.sem_eq_zero_of_no_sems (by decide) r.2⟩)
    (reference_run m g)

/-- From the same arguments, nonnegative image values, the two programs end with the same result. -/
theorem algebraic : algebraic_KernelIdeal_ReferenceIdeal_pre_nonneg := by
  intro m g m' g' hm hargs
  refine ⟨result m, kernel_run m g hm, (θ_run _ _ _).mono (fun r h c => ⟨(h c).1.trans ?_, (h c).2⟩) (reference_run m' g')⟩
  rw [(hargs c).1, (hargs c).2]
  exact reference_value m c hm

end Cert.Equation
-- ==== Proof.lean ====
/-
  The claim: the three frames (the kernel as written, its ideal reading, the reference), that the ideal reading keeps the
  kernel's text, and that kernel and reference compute the same array on nonnegative images.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_nonneg
public import proofs.«01_k».proof.Proof.Gen.KernelIdeal.Value
public import proofs.«01_k».proof.Proof.Gen.ReferenceIdeal.Run
public import proofs.«01_k».proof.Proof.Equation
public import Idealize.ShloMosaic.Adequacy
public import Idealize.ShloMosaic.Init

@[expose] public section

noncomputable section

namespace Cert.Proof

open Idealize.ShloMosaic Idealize.SL.Sem Cert.Kernel

/-- Everything claimed. -/
theorem claim : Cert.Claim := ⟨Cert.Kernel.Gen.facts, Cert.KernelIdeal.Gen.facts, Cert.ReferenceIdeal.Gen.facts, Cert.Pre_nonneg.Gen.facts, by
  exact ⟨fun m ρ _ => Cert.Kernel.Gen.frame m ρ, fun m ρ _ => Cert.KernelIdeal.Gen.frame m ρ, fun m ρ _ => Cert.KernelIdeal.Gen.frame m ρ,
    fun m ρ _ => Equation.reference_frame m ρ, fun m ρ _ => Equation.reference_frame m ρ, trivial, Equation.algebraic⟩⟩

end Cert.Proof

end
